-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x39CCCCCD#32 ((1 / 2560 : ℝ) : EReal)

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44_0) = v0 c
          ∧ r.2.mem ((c.tc : Thread Cert.ReferenceIdeal.nD Cert.ReferenceIdeal.τ).loc Cert.ReferenceIdeal.main_v44_1) = v1 c
          ∧ r.2.mem ((c.tc : Thread Cert.ReferenceIdeal.nD Cert.ReferenceIdeal.τ).loc Cert.ReferenceIdeal.main_v44_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel)
    ∧ quiescent_KernelIdeal (hKernelIdeal := hKernelIdeal)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_well_formed.lean ====
abbrev S3x640x2560 : Shape := ⟨3, ![3, 640, 2560]⟩
abbrev S2560 : Shape := ⟨1, ![2560]⟩
abbrev S6912x1280 : Shape := ⟨2, ![6912, 1280]⟩
abbrev S6912x80 : Shape := ⟨2, ![6912, 80]⟩
abbrev S6912 : Shape := ⟨1, ![6912]⟩
abbrev S8 : Shape := ⟨1, ![8]⟩
abbrev S6912x80x1 : Shape := ⟨3, ![6912, 80, 1]⟩
abbrev S_ : Shape := ⟨0, ![]⟩
abbrev S1x1x8 : Shape := ⟨3, ![1, 1, 8]⟩
abbrev S6912x80x8 : Shape := ⟨3, ![6912, 80, 8]⟩

class Facts : Prop where
  bcast_S6912x80_S6912x80x1_0_1 : S6912x80.BroadcastsInDim S6912x80x1 (![0, 1] : Fin 2 → Fin S6912x80x1.rank)
  bcast_S_S8 : S_.BroadcastsInDim S8 (![] : Fin 0 → Fin S8.rank)
  bcast_S8_S1x1x8_2 : S8.BroadcastsInDim S1x1x8 (![2] : Fin 1 → Fin S1x1x8.rank)
  bcast_S6912x80x1_S6912x80x8_0_1_2 : S6912x80x1.BroadcastsInDim S6912x80x8 (![0, 1, 2] : Fin 3 → Fin S6912x80x8.rank)
  bcast_S1x1x8_S6912x80x8_0_1_2 : S1x1x8.BroadcastsInDim S6912x80x8 (![0, 1, 2] : Fin 3 → Fin S6912x80x8.rank)
  bcast_S_S6912x80x8 : S_.BroadcastsInDim S6912x80x8 (![] : Fin 0 → Fin S6912x80x8.rank)
  bcast_S_S2560 : S_.BroadcastsInDim S2560 (![] : Fin 0 → Fin S2560.rank)

variable [Facts]

def fn_part1 {F : FTy → Type} [FloatOps F] (main_arg1 : FVec F S2560 .f32) (main_v9 : IVec S6912x80x8 32) (main_v17 : IVec S6912x80x8 32) (main_v18 : IVec S6912x80x8 32) : IVec S2560 1 × IVec S6912x80x8 1 :=
  let main_v19 : IVec S6912x80x8 32 := andi main_v17 main_v18
  let main_v20 : FVec F S2560 .f32 := Host.absf main_arg1
  let main_cst : FVec F S_ .f32 := constant S_ .f32 0x7F7FFFFF#32
  let main_v21 : FVec F S2560 .f32 := broadcastInDim S2560 ![] bcast_S_S2560 main_cst
  let main_v22 : IVec S2560 1 := cmpf .ole main_v20 main_v21
  let main_v23 : IVec S6912x80x8 1 := cmpi .ne main_v9 main_v19
  (main_v22, main_v23)

def fn {F : FTy → Type} [FloatOps F] (main_arg0 : FVec F S3x640x2560 .bf16) (main_arg1 : FVec F S2560 .f32) (main_arg2 : IVec S6912x1280 8) (main_arg3 : IVec S6912x80 32) (main_arg4 : FVec F S6912 .f32) : IVec S2560 1 × IVec S6912x80x8 1 :=
  let main_v0 : IVec S8 32 := iotaInDim S8 32 0
  let main_v1 : IVec S6912x80x1 32 := broadcastInDim S6912x80x1 ![0, 1] bcast_S6912x80_S6912x80x1_0_1 main_arg3
  let main_c : IVec S_ 32 := constantI S_ 32 4#32
  let main_v2 : IVec S8 32 := broadcastInDim S8 ![] bcast_S_S8 main_c
  let main_v3 : IVec S8 32 := muli main_v2 main_v0
  let main_v4 : IVec S1x1x8 32 := broadcastInDim S1x1x8 ![2] bcast_S8_S1x1x8_2 main_v3
  let main_v5 : IVec S6912x80x8 32 := broadcastInDim S6912x80x8 ![0, 1, 2] bcast_S6912x80x1_S6912x80x8_0_1_2 main_v1
  let main_v6 : IVec S6912x80x8 32 := broadcastInDim S6912x80x8 ![0, 1, 2] bcast_S1x1x8_S6912x80x8_0_1_2 main_v4
  let main_v7 : IVec S6912x80x8 32 := Host.shrsi main_v5 main_v6
  let main_c_0 : IVec S_ 32 := constantI S_ 32 3#32
  let main_v8 : IVec S6912x80x8 32 := broadcastInDim S6912x80x8 ![] bcast_S_S6912x80x8 main_c_0
  let main_v9 : IVec S6912x80x8 32 := andi main_v7 main_v8
  let main_c_1 : IVec S_ 32 := constantI S_ 32 4#32
  let main_v10 : IVec S8 32 := broadcastInDim S8 ![] bcast_S_S8 main_c_1
  let main_v11 : IVec S8 32 := muli main_v10 main_v0
  let main_c_2 : IVec S_ 32 := constantI S_ 32 2#32
  let main_v12 : IVec S8 32 := broadcastInDim S8 ![] bcast_S_S8 main_c_2
  let main_v13 : IVec S8 32 := addi main_v11 main_v12
  let main_v14 : IVec S1x1x8 32 := broadcastInDim S1x1x8 ![2] bcast_S8_S1x1x8_2 main_v13
  let main_v15 : IVec S6912x80x8 32 := broadcastInDim S6912x80x8 ![0, 1, 2] bcast_S6912x80x1_S6912x80x8_0_1_2 main_v1
  let main_v16 : IVec S6912x80x8 32 := broadcastInDim S6912x80x8 ![0, 1, 2] bcast_S1x1x8_S6912x80x8_0_1_2 main_v14
  let main_v17 : IVec S6912x80x8 32 := Host.shrsi main_v15 main_v16
  let main_c_3 : IVec S_ 32 := constantI S_ 32 3#32
  let main_v18 : IVec S6912x80x8 32 := broadcastInDim S6912x80x8 ![] bcast_S_S6912x80x8 main_c_3
  fn_part1 (F := F) main_arg1 main_v9 main_v17 main_v18
-- ==== Kernel.lean ====
abbrev S3x640x2560 : Shape := ⟨3, ![3, 640, 2560]⟩
abbrev S2560 : Shape := ⟨1, ![2560]⟩
abbrev S6912x1280 : Shape := ⟨2, ![6912, 1280]⟩
abbrev S6912x80 : Shape := ⟨2, ![6912, 80]⟩
abbrev S6912 : Shape := ⟨1, ![6912]⟩
abbrev S1920x2560 : Shape := ⟨2, ![1920, 2560]⟩
abbrev S1x2560 : Shape := ⟨2, ![1, 2560]⟩
abbrev S1x6912 : Shape := ⟨2, ![1, 6912]⟩
abbrev S1920x6912 : Shape := ⟨2, ![1920, 6912]⟩
abbrev S1920x1 : Shape := ⟨2, ![1920, 1]⟩
abbrev S256x1280 : Shape := ⟨2, ![256, 1280]⟩
abbrev S256x80 : Shape := ⟨2, ![256, 80]⟩
abbrev S1x768 : Shape := ⟨2, ![1, 768]⟩
abbrev S1920x768 : Shape := ⟨2, ![1920, 768]⟩
abbrev S80x256 : Shape := ⟨2, ![80, 256]⟩
abbrev S640x256 : Shape := ⟨2, ![640, 256]⟩
abbrev S32x2560 : Shape := ⟨2, ![32, 2560]⟩
abbrev S32 : Shape := ⟨1, ![32]⟩
abbrev S32x1 : Shape := ⟨2, ![32, 1]⟩
abbrev S1x256 : Shape := ⟨2, ![1, 256]⟩
abbrev S32x256 : Shape := ⟨2, ![32, 256]⟩
abbrev S8x256 : Shape := ⟨2, ![8, 256]⟩
abbrev S256x128 : Shape := ⟨2, ![256, 128]⟩
abbrev S128x256 : Shape := ⟨2, ![128, 256]⟩
abbrev S64x256 : Shape := ⟨2, ![64, 256]⟩
abbrev S2560x256 : Shape := ⟨2, ![2560, 256]⟩
abbrev S1920x256 : Shape := ⟨2, ![1920, 256]⟩

abbrev nBuf : Space → Nat
  | .hbm => 11
  | .vmem => 26
  | .smem => 0
  | _ => 0

abbrev bufTy : (tb : Table) → Fin (tcTables nBuf tb) → BufTy
  | .hbm, ⟨0, _⟩ => ⟨S3x640x2560, .bf16⟩
  | .hbm, ⟨1, _⟩ => ⟨S2560, .f32⟩
  | .hbm, ⟨2, _⟩ => ⟨S6912x1280, .i8⟩
  | .hbm, ⟨3, _⟩ => ⟨S6912x80, .i32⟩
  | .hbm, ⟨4, _⟩ => ⟨S6912, .f32⟩
  | .hbm, ⟨5, _⟩ => ⟨S1920x2560, .bf16⟩
  | .hbm, ⟨6, _⟩ => ⟨S1x2560, .f32⟩
  | .hbm, ⟨7, _⟩ => ⟨S1x6912, .f32⟩
  | .hbm, ⟨8, _⟩ => ⟨S1920x6912, .bf16⟩
  | .hbm, ⟨9, _⟩ => ⟨S1920x2560, .fp8e4m3⟩
  | .hbm, ⟨10, _⟩ => ⟨S1920x1, .f32⟩
  | .local _ .vmem, ⟨0, _⟩ => ⟨S1920x2560, .bf16⟩
  | .local _ .vmem, ⟨1, _⟩ => ⟨S1x2560, .f32⟩
  | .local _ .vmem, ⟨2, _⟩ => ⟨S256x1280, .i8⟩
  | .local _ .vmem, ⟨3, _⟩ => ⟨S256x80, .i32⟩
  | .local _ .vmem, ⟨4, _⟩ => ⟨S256x1280, .i8⟩
  | .local _ .vmem, ⟨5, _⟩ => ⟨S256x1280, .i8⟩
  | .local _ .vmem, ⟨6, _⟩ => ⟨S256x80, .i32⟩
  | .local _ .vmem, ⟨7, _⟩ => ⟨S256x80, .i32⟩
  | .local _ .vmem, ⟨8, _⟩ => ⟨S256x1280, .i8⟩
  | .local _ .vmem, ⟨9, _⟩ => ⟨S256x1280, .i8⟩
  | .local _ .vmem, ⟨10, _⟩ => ⟨S256x80, .i32⟩
  | .local _ .vmem, ⟨11, _⟩ => ⟨S256x80, .i32⟩
  | .local _ .vmem, ⟨12, _⟩ => ⟨S256x1280, .i8⟩
  | .local _ .vmem, ⟨13, _⟩ => ⟨S256x1280, .i8⟩
  | .local _ .vmem, ⟨14, _⟩ => ⟨S256x80, .i32⟩
  | .local _ .vmem, ⟨15, _⟩ => ⟨S256x80, .i32⟩
  | .local _ .vmem, ⟨16, _⟩ => ⟨S1x768, .f32⟩
  | .local _ .vmem, ⟨17, _⟩ => ⟨S1x768, .f32⟩
  | .local _ .vmem, ⟨18, _⟩ => ⟨S1920x768, .bf16⟩
  | .local _ .vmem, ⟨19, _⟩ => ⟨S1920x768, .bf16⟩
  | .local _ .vmem, ⟨20, _⟩ => ⟨S1920x2560, .fp8e4m3⟩
  | .local _ .vmem, ⟨21, _⟩ => ⟨S1920x1, .f32⟩
  | .local _ .vmem, ⟨22, _⟩ => ⟨S80x256, .i32⟩
  | .local _ .vmem, ⟨23, _⟩ => ⟨S640x256, .i32⟩
  | .local _ .vmem, ⟨24, _⟩ => ⟨S640x256, .i32⟩
  | .local _ .vmem, ⟨25, _⟩ => ⟨S640x256, .i32⟩
  | _, _ => ⟨S3x640x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2587 : BitVec 32 := 0#32
  let c60_i32 : BitVec 32 := 60#32
  let v6192 : BitVec 32 := Scalar.addi c0_i32_2587 c60_i32
  let c1_i32_2588 : BitVec 32 := 1#32
  ⟨c0_i32_2587, v6192, c1_i32_2588⟩
def k0_mult1 (k0_t1 : Fin k0_t1_loop.trips) : BitVec 32 :=
  let c0_i32_2587 : BitVec 32 := 0#32
  let c1_i32_2588 : BitVec 32 := 1#32
  let arg19 : BitVec 32 := Scf.iv c0_i32_2587 c1_i32_2588 k0_t1
  let c32_i32 : BitVec 32 := 32#32
  let v8241 : BitVec 32 := Scalar.muli arg19 c32_i32
  v8241
def k0_off1 (k0_t1 : Fin k0_t1_loop.trips) : Fin 2 → Nat :=
  let c0_i32_2587 : BitVec 32 := 0#32
  let c1_i32_2588 : BitVec 32 := 1#32
  let arg19 : BitVec 32 := Scf.iv c0_i32_2587 c1_i32_2588 k0_t1
  let c32_i32 : BitVec 32 := 32#32
  let v8241 : BitVec 32 := Scalar.muli arg19 c32_i32
  let v8242 : BitVec 32 := v8241
  let v8243 : Index := Scalar.indexCast v8242
  let c0_3495 : Index := 0#32
  ![v8243.toNat, 0]
def k0_off2 (k0_t1 : Fin k0_t1_loop.trips) : Fin 2 → Nat :=
  let c0_i32_2587 : BitVec 32 := 0#32
  let c1_i32_2588 : BitVec 32 := 1#32
  let arg19 : BitVec 32 := Scf.iv c0_i32_2587 c1_i32_2588 k0_t1
  let c32_i32 : BitVec 32 := 32#32
  let v8241 : BitVec 32 := Scalar.muli arg19 c32_i32
  let v8242 : BitVec 32 := v8241
  let v8303 : Index := Scalar.indexCast v8242
  let c0_3513 : Index := 0#32
  ![v8303.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c3_i32 : BitVec 32 := 3#32
  let v0 : BitVec 32 := Scalar.muli c3_i32 arg0
  let c2_i32 : BitVec 32 := 2#32
  let v1 : BitVec 32 := Scalar.addi v0 c2_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c3_i32 : BitVec 32 := 3#32
  let v0 : BitVec 32 := Scalar.muli c3_i32 arg0
  let c2_i32 : BitVec 32 := 2#32
  let v1 : BitVec 32 := Scalar.addi v0 c2_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c3_i32 : BitVec 32 := 3#32
  let v0 : BitVec 32 := Scalar.muli c3_i32 arg0
  let c3_i32_0 : BitVec 32 := 3#32
  let v1 : BitVec 32 := Scalar.addi v0 c3_i32_0
  let c26_i32 : BitVec 32 := 26#32
  let v2 : BitVec 32 := Scalar.minsi v1 c26_i32
  let c0_i32 : BitVec 32 := 0#32
  let c0_i32_1 : BitVec 32 := 0#32
  ![v2.toNat, c0_i32.toNat]

def cc0_transform_9 (i : grid0.Coords) : Fin 2 → Nat :=
  let arg0 : BitVec 32 := BitVec.ofNat 32 (i 0).val
  let c3_i32 : BitVec 32 := 3#32
  let v0 : BitVec 32 := Scalar.muli c3_i32 arg0
  let c3_i32_0 : BitVec 32 := 3#32
  let v1 : BitVec 32 := Scalar.addi v0 c3_i32_0
  let c26_i32 : BitVec 32 := 26#32
  let v2 : BitVec 32 := Scalar.minsi v1 c26_i32
  let c0_i32 : BitVec 32 := 0#32
  let c0_i32_1 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1920x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1280 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x80 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1280 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x80 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x80 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x80 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1920x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1920x2560 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1920x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "inv_d" => some ((1 / 2560 : ℝ) : EReal)
  | _ => none
-- ==== ReferenceIdeal.lean ====
abbrev S3x640x2560 : Shape := ⟨3, ![3, 640, 2560]⟩
abbrev S2560 : Shape := ⟨1, ![2560]⟩
abbrev S6912x1280 : Shape := ⟨2, ![6912, 1280]⟩
abbrev S6912x80 : Shape := ⟨2, ![6912, 80]⟩
abbrev S6912 : Shape := ⟨1, ![6912]⟩
abbrev S8 : Shape := ⟨1, ![8]⟩
abbrev S6912x80x1 : Shape := ⟨3, ![6912, 80, 1]⟩
abbrev S_ : Shape := ⟨0, ![]⟩
abbrev S1x1x8 : Shape := ⟨3, ![1, 1, 8]⟩
abbrev S6912x80x8 : Shape := ⟨3, ![6912, 80, 8]⟩
abbrev S6912x80x8x2 : Shape := ⟨4, ![6912, 80, 8, 2]⟩
abbrev S6912x80x8x1 : Shape := ⟨4, ![6912, 80, 8, 1]⟩
abbrev S4 : Shape := ⟨1, ![4]⟩
abbrev S1x1x1x4 : Shape := ⟨4, ![1, 1, 1, 4]⟩
abbrev S6912x80x8x4 : Shape := ⟨4, ![6912, 80, 8, 4]⟩
abbrev S1920x2560 : Shape := ⟨2, ![1920, 2560]⟩
abbrev S1x2560 : Shape := ⟨2, ![1, 2560]⟩
abbrev S6912x2560 : Shape := ⟨2, ![6912, 2560]⟩
abbrev S1x6912 : Shape := ⟨2, ![1, 6912]⟩
abbrev S1920x6912 : Shape := ⟨2, ![1920, 6912]⟩
abbrev S1920x1 : Shape := ⟨2, ![1920, 1]⟩
abbrev S1920 : Shape := ⟨1, ![1920]⟩

abbrev nBuf : Space → Nat
  | .hbm => 61
  | .vmem => 7
  | .smem => 0
  | _ => 0

abbrev bufTy : (tb : Table) → Fin (tcTables nBuf tb) → BufTy
  | .hbm, ⟨0, _⟩ => ⟨S3x640x2560, .bf16⟩
  | .hbm, ⟨1, _⟩ => ⟨S2560, .f32⟩
  | .hbm, ⟨2, _⟩ => ⟨S6912x1280, .i8⟩
  | .hbm, ⟨3, _⟩ => ⟨S6912x80, .i32⟩
  | .hbm, ⟨4, _⟩ => ⟨S6912, .f32⟩
  | .hbm, ⟨5, _⟩ => ⟨S8, .i32⟩
  | .hbm, ⟨6, _⟩ => ⟨S6912x80x1, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S1x1x8, .i32⟩
  | .hbm, ⟨11, _⟩ => ⟨S6912x80x8, .i32⟩
  | .hbm, ⟨12, _⟩ => ⟨S6912x80x8, .i32⟩
  | .hbm, ⟨13, _⟩ => ⟨S6912x80x8, .i32⟩
  | .hbm, ⟨14, _⟩ => ⟨S_, .i32⟩
  | .hbm, ⟨15, _⟩ => ⟨S6912x80x8, .i32⟩
  | .hbm, ⟨16, _⟩ => ⟨S6912x80x8, .i32⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S1x1x8, .i32⟩
  | .hbm, ⟨24, _⟩ => ⟨S6912x80x8, .i32⟩
  | .hbm, ⟨25, _⟩ => ⟨S6912x80x8, .i32⟩
  | .hbm, ⟨26, _⟩ => ⟨S6912x80x8, .i32⟩
  | .hbm, ⟨27, _⟩ => ⟨S_, .i32⟩
  | .hbm, ⟨28, _⟩ => ⟨S6912x80x8, .i32⟩
  | .hbm, ⟨29, _⟩ => ⟨S6912x80x8, .i32⟩
  | .hbm, ⟨30, _⟩ => ⟨S6912x80x8x2, .i8⟩
  | .hbm, ⟨31, _⟩ => ⟨S6912x80x8x1, .i8⟩
  | .hbm, ⟨32, _⟩ => ⟨S6912x80x8, .i8⟩
  | .hbm, ⟨33, _⟩ => ⟨S6912x80x8x1, .i8⟩
  | .hbm, ⟨34, _⟩ => ⟨S6912x80x8, .i8⟩
  | .hbm, ⟨35, _⟩ => ⟨S4, .i32⟩
  | .hbm, ⟨36, _⟩ => ⟨S6912x80x8x1, .i32⟩
  | .hbm, ⟨37, _⟩ => ⟨S1x1x1x4, .i32⟩
  | .hbm, ⟨38, _⟩ => ⟨S6912x80x8x4, .i32⟩
  | .hbm, ⟨39, _⟩ => ⟨S6912x80x8x4, .i32⟩
  | .hbm, ⟨40, _⟩ => ⟨S6912x80x8x4, .i1⟩
  | .hbm, ⟨41, _⟩ => ⟨S6912x80x8x1, .i8⟩
  | .hbm, ⟨42, _⟩ => ⟨S6912x80x8x1, .i32⟩
  | .hbm, ⟨43, _⟩ => ⟨S1x1x1x4, .i32⟩
  | .hbm, ⟨44, _⟩ => ⟨S6912x80x8x4, .i32⟩
  | .hbm, ⟨45, _⟩ => ⟨S6912x80x8x4, .i32⟩
  | .hbm, ⟨46, _⟩ => ⟨S6912x80x8x4, .i1⟩
  | .hbm, ⟨47, _⟩ => ⟨S6912x80x8x1, .i8⟩
  | .hbm, ⟨48, _⟩ => ⟨S_, .i8⟩
  | .hbm, ⟨49, _⟩ => ⟨S6912x80x8x4, .i8⟩
  | .hbm, ⟨50, _⟩ => ⟨S6912x80x8x4, .i8⟩
  | .hbm, ⟨51, _⟩ => ⟨S6912x80x8x4, .i8⟩
  | .hbm, ⟨52, _⟩ => ⟨S6912x80x8x4, .i8⟩
  | .hbm, ⟨53, _⟩ => ⟨S6912x80x8x4, .i8⟩
  | .hbm, ⟨54, _⟩ => ⟨S1920x2560, .bf16⟩
  | .hbm, ⟨55, _⟩ => ⟨S1x2560, .f32⟩
  | .hbm, ⟨56, _⟩ => ⟨S6912x2560, .i8⟩
  | .hbm, ⟨57, _⟩ => ⟨S1x6912, .f32⟩
  | .hbm, ⟨58, _⟩ => ⟨S1920x6912, .bf16⟩
  | .hbm, ⟨59, _⟩ => ⟨S1920x2560, .fp8e4m3⟩
  | .hbm, ⟨60, _⟩ => ⟨S1920x1, .f32⟩
  | .local _ .vmem, ⟨0, _⟩ => ⟨S1920x2560, .bf16⟩
  | .local _ .vmem, ⟨1, _⟩ => ⟨S1x2560, .f32⟩
  | .local _ .vmem, ⟨2, _⟩ => ⟨S6912x2560, .i8⟩
  | .local _ .vmem, ⟨3, _⟩ => ⟨S1x6912, .f32⟩
  | .local _ .vmem, ⟨4, _⟩ => ⟨S1920x6912, .bf16⟩
  | .local _ .vmem, ⟨5, _⟩ => ⟨S1920x2560, .fp8e4m3⟩
  | .local _ .vmem, ⟨6, _⟩ => ⟨S1920x1, .f32⟩
  | _, _ => ⟨S3x640x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_call0_v0 : Ref sig .tc := ⟨.hbm, 49, rfl⟩
abbrev main_call0_v1 : Ref sig .tc := ⟨.hbm, 50, rfl⟩
abbrev main_v38 : Ref sig .tc := ⟨.hbm, 51, rfl⟩
abbrev main_call1_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_v44_2 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1920x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x6912 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Machine.Runs.lean ====
module

public import proofs.«01_k».proof.Proof.Gen.Kernel.Launch
public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel.Machine

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! The body of the kernel run in each of its two cases shares these facts: where the branch is taken, which windows
   are idle where, the memrefs of each window. -/
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, k0_cond1, e0]
    word_cmp
   : ∀ t : Fin grid0.N, cond0_0 (grid0.coords t) ↔ t.val % 9 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an output stored at every point, under no condition). -/
theorem liveAt0_11 : ∀ t : Fin cfg0.N, cfg0.idle 11 (grid0.coords t) = false := fun _ => rfl
/-- Whether output 12's buffer is FRESH at each position `1 ‥ N` — holds nothing the body stored since the region's entry or the
    last write-back (written back at the point before, or idle there and fresh before it) —, as a bitmask the classifier
    computed, bit `n` for position `n + 1`; position 0 is fresh. `freshTab0_12_step` checks it against the configuration's own
    step point by point and Lib/Pipeline/TableIdle.lean `Cfg.fresh_tab` makes it `Cfg.fresh` (`fresh0_12_eq`). -/
def freshTab0_12 : ℕ → Bool
  | 0 => true
  | n + 1 => (0x100 : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
/-- At the points of case A the printed configuration (`Cfg.idle`) calls output 12 live: the case stores into it. -/
theorem liveAt0_12_A : ∀ t : Fin cfg0.N, cond0_0 (grid0.coords t) → cfg0.idle 12 (grid0.coords t) = false := by decide +kernel
/-- At the points of case B the configuration calls output 12 idle: the case stores nothing into it. -/
theorem idleAt0_12_B : ∀ t : Fin cfg0.N, ¬cond0_0 (grid0.coords t) → cfg0.idle 12 (grid0.coords t) = true := by decide +kernel
/-- At the points of case B, which keeps output 12's prior contents (reads it before covering, or covers it in part), the
    window's buffer is not FRESH: something was stored into it since the region's entry or its last write-back, idle points
    between or not (Lib/Pipeline/TableIdle.lean `Cfg.fresh`, by the table `freshTab0_12`). -/
theorem notFresh0_12_B : ∀ t : Fin cfg0.N, ¬cond0_0 (grid0.coords t) → cfg0.fresh 12 t.val = false := by
  intro t; rw [fresh0_12_eq t]; revert t; decide +kernel
/-- Whether output 13's buffer is FRESH at each position `1 ‥ N` — holds nothing the body stored since the region's entry or the
    last write-back (written back at the point before, or idle there and fresh before it) —, as a bitmask the classifier
    computed, bit `n` for position `n + 1`; position 0 is fresh. `freshTab0_13_step` checks it against the configuration's own
    step point by point and Lib/Pipeline/TableIdle.lean `Cfg.fresh_tab` makes it `Cfg.fresh` (`fresh0_13_eq`). -/
def freshTab0_13 : ℕ → Bool
  | 0 => true
  | n + 1 => (0x100 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- At the points of case A the printed configuration (`Cfg.idle`) calls output 13 live: the case stores into it. -/
theorem liveAt0_13_A : ∀ t : Fin cfg0.N, cond0_0 (grid0.coords t) → cfg0.idle 13 (grid0.coords t) = false := by decide +kernel
/-- At the points of case B the configuration calls output 13 idle: the case stores nothing into it. -/
theorem idleAt0_13_B : ∀ t : Fin cfg0.N, ¬cond0_0 (grid0.coords t) → cfg0.idle 13 (grid0.coords t) = true := by decide +kernel
/-- At the points of case B, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_B : ∀ t : Fin cfg0.N, ¬cond0_0 (grid0.coords t) → cfg0.fresh 13 t.val = false := by
  intro t; rw [fresh0_13_eq t]; revert t; decide +kernel

/-! ## The kernel body on any staging memrefs: a subtype the run finds -/

/-- One staging buffer of output window 11, through which its contents are stated (`View.read_writes_of_cover`: the
    choice does not matter). -/
abbrev VO0_11 : View sig .tc .vmem S1920x768 .bf16 := (Memref.whole cc0_stg11_0 : Memref sig .tc .vmem S1920x768 .bf16).view
/-- One staging buffer of output window 12, through which its contents are stated (`View.read_writes_of_cover`: the
    choice does not matter). -/
abbrev VO0_12 : View sig .tc .vmem S1920x2560 .fp8e4m3 := (Memref.whole cc0_stg12_0 : Memref sig .tc .vmem S1920x2560 .fp8e4m3).view
/-- One staging buffer of output window 13, through which its contents are stated (`View.read_writes_of_cover`: the
    choice does not matter). -/
abbrev VO0_13 : View sig .tc .vmem S1920x1 .f32 := (Memref.whole cc0_stg13_0 : Memref sig .tc .vmem S1920x1 .f32).view
/-- Each window's current staging memref at point `t`, spelled as the pipeline passes it (`bodyAt0`), and its wholeness. -/
abbrev ms0_0 (t : Fin cfg0.N) : Memref sig .tc .vmem S1920x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2560 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1280 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x80 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1280 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x80 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1280 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x80 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1280 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x80 .i32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1920x768 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1920x2560 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1920x1 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S80x256 .i32 := Memref.whole cc0_scratch0
abbrev scM0_1 : Memref sig .tc .vmem S640x256 .i32 := Memref.whole cc0_scratch1
abbrev scM0_2 : Memref sig .tc .vmem S640x256 .i32 := Memref.whole cc0_scratch2
abbrev scM0_3 : Memref sig .tc .vmem S640x256 .i32 := Memref.whole cc0_scratch3
/-- The scratch `arg16` the kernel carries between points, as a view: what it holds is stated through it. -/
abbrev VS0_1 : View sig .tc .vmem S640x256 .i32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Machine

end
-- ==== Proof.Machine.RunA.lean ====
module

public import proofs.«01_k».proof.Proof.Machine.Runs

@[expose] public section

set_option maxRecDepth 16384

noncomputable section

namespace Cert.Kernel.Machine

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 7172000 in
/-- What the body's stores leave in each output's staging memref, as pieces (last first) IN CASE A (the branch taken: point 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) :
    Σ' (L11 : List (View.Piece (Elt F) S1920x768 .bf16)), Σ' (L12 : List (View.Piece (Elt F) S1920x2560 .fp8e4m3)), Σ' (L13 : List (View.Piece (Elt F) S1920x1 .f32)), Σ' (LS1 : List (View.Piece (Elt F) S640x256 .i32)), Σ' (LT0 : List (View.Piece (Elt F) S80x256 .i32)), Σ' (LT2 : List (View.Piece (Elt F) S640x256 .i32)), { LT3 : List (View.Piece (Elt F) S640x256 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LT0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LT2) ∗ (∃ f, arg18.view.loc (c : Thread nD τ) ↦[arg18.view.set]{fullShare} arg18.view.writes (Elt F) f LT3)) -∗ K ⟨⟩))
          ⊢ wp frame (wpE (defs₀ (F := F)) Variants.none c none) E (cc0_sparse24_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0_sparse24_linear_eq_skeleton]; unfold cc0_sparse24_linear_skel
    simp only [k0_part206_eq_skeleton, k0_part53_eq_skeleton, k0_part52_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part207_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    have hrd0 : ∀ (𝒱 : Variants) (c : Dev nD) (bd : Option 𝒱.V) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (k0_h1 : k0_cond1 i = 1#1) (X_arg1 : BufTy.Contents (Elt F) arg1.view.ty) (X_arg2 : BufTy.Contents (Elt F) arg2.view.ty) (hrdF : BufTy.Contents (Elt F) arg13.view.ty) (hrdB : LoadRect S1920x2560), arg13.view.readAt (Elt F) hrdB (arg13.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 (Scf.trips k0_t1_loop.lb k0_t1_loop.ub k0_t1_loop.st)).1) = arg13.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 (Scf.trips k0_t1_loop.lb k0_t1_loop.ub k0_t1_loop.st)).1 S32x2560.size (by sl_kernel_rfl) (hrdB.idx hrdJ))
    have hrd1 : ∀ (𝒱 : Variants) (c : Dev nD) (bd : Option 𝒱.V) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (k0_h1 : k0_cond1 i = 1#1) (X_arg1 : BufTy.Contents (Elt F) arg1.view.ty) (X_arg2 : BufTy.Contents (Elt F) arg2.view.ty) (hrdF : BufTy.Contents (Elt F) arg14.view.ty) (hrdB : LoadRect S1920x1), arg14.view.readAt (Elt F) hrdB (arg14.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 (Scf.trips k0_t1_loop.lb k0_t1_loop.ub k0_t1_loop.st)).2) = arg14.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 (Scf.trips k0_t1_loop.lb k0_t1_loop.ub k0_t1_loop.st)).2 S32x1.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [HS0]; · iexists _; iexact HS0
    isplitl [HS1]; · iexists _; iexact HS1
    isplitl [HS2]; · iexists _; iexact HS2
    iexists _; iexact HS3

end Cert.Kernel.Machine

end
-- ==== Proof.Machine.RunB.lean ====
module

public import proofs.«01_k».proof.Proof.Machine.RunA

@[expose] public section

set_option maxRecDepth 16384

noncomputable section

namespace Cert.Kernel.Machine

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5392000 in
/-- What the body's stores leave in each output's staging memref, as pieces (last first) IN CASE B (the branch not taken: points 1 to 8), WITH the
    proof that on whole staging memrefs — the inputs' at their contents, the outputs 12 and 13, which it reads only, at their contents `xo·` and handed back so, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (xo12 : Vec F S1920x2560 .fp8e4m3) (xo13 : Vec F S1920x1 .f32) (xs1 : Vec F S640x256 .i32) :
    Σ' (L11 : List (View.Piece (Elt F) S1920x768 .bf16)), Σ' (LS1 : List (View.Piece (Elt F) S640x256 .i32)), Σ' (LT0 : List (View.Piece (Elt F) S80x256 .i32)), Σ' (LT2 : List (View.Piece (Elt F) S640x256 .i32)), { LT3 : List (View.Piece (Elt F) S640x256 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xo12 ∗ owns (c : Thread nD τ) arg14 fullShare xo13 ∗ (∃ d, owns (c : Thread nD τ) arg15 fullShare d) ∗ owns (c : Thread nD τ) arg16 fullShare xs1 ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ owns (c : Thread nD τ) arg13 fullShare xo12 ∗ owns (c : Thread nD τ) arg14 fullShare xo13 ∗ (∃ f, arg15.view.loc (c : Thread nD τ) ↦[arg15.view.set]{fullShare} arg15.view.writes (Elt F) f LT0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LT2) ∗ (∃ f, arg18.view.loc (c : Thread nD τ) ↦[arg18.view.set]{fullShare} arg18.view.writes (Elt F) f LT3)) -∗ K ⟨⟩))
          ⊢ wp frame (wpE (defs₀ (F := F)) Variants.none c none) E (cc0_sparse24_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_sparse24_linear_eq_skeleton]; unfold cc0_sparse24_linear_skel
    simp only [k0_part206_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part207_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%ds0, %fs0, -, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12; obtain rfl := harg14.eq_unread hf13; obtain rfl := harg16.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]
    · iexists _; isplitr; · ipureintro; exact harg13.read_unread _
      iexact H12
    isplitl [H13]
    · iexists _; isplitr; · ipureintro; exact harg14.read_unread _
      iexact H13
    isplitl [HS0]; · iexists _; iexact HS0
    isplitl [HS1]; · iexists _; iexact HS1
    isplitl [HS2]; · iexists _; iexact HS2
    iexists _; iexact HS3

end Cert.Kernel.Machine

end
-- ==== Proof.Machine.Frame.lean ====
module

public import proofs.«01_k».proof.Proof.Machine.RunB
public import Idealize.ShloMosaic.Lib.Claim

@[expose] public section

set_option maxRecDepth 16384

noncomputable section

namespace Cert.Kernel.Machine

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 11 tile its block (3 stores of `S1920x256`, checked by the kernel's evaluation: Lib/Ring.lean `Piece.tiledL`, linear in the pieces, through a loop's `@[irreducible]` trip theorem too), so they cover it. -/
theorem cover0_A_11 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (y : S1920x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).1 S1920x256.size (by sl_kernel_rfl) y

/-- What case A leaves in output 11's staging buffer: its pieces read back over junk. -/
def out0_A_11 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) : Vec F S1920x768 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).1)

/-- Case A's pieces for output 12 tile its block (60 stores of `S32x2560`, checked by the kernel's evaluation: Lib/Ring.lean `Piece.tiledL`, linear in the pieces, through a loop's `@[irreducible]` trip theorem too), so they cover it. -/
theorem cover0_A_12 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (y : S1920x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.1 S32x2560.size (by sl_kernel_rfl) y

/-- What case A leaves in output 12's staging buffer: its pieces read back over junk. -/
def out0_A_12 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) : Vec F S1920x2560 .fp8e4m3 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.1)

/-- Case A's pieces for output 13 tile its block (60 stores of `S32x1`, checked by the kernel's evaluation: Lib/Ring.lean `Piece.tiledL`, linear in the pieces, through a loop's `@[irreducible]` trip theorem too), so they cover it. -/
theorem cover0_A_13 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (y : S1920x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.1 S32x1.size (by sl_kernel_rfl) y

/-- What case A leaves in output 13's staging buffer: its pieces read back over junk. -/
def out0_A_13 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) : Vec F S1920x1 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.1)

/-- Case A's pieces for scratch `arg16`, which the kernel carries between points, cover it: 160 pieces of `S8x256` tiling it (Lib/Ring.lean `Piece.tiledL`). -/
theorem scover0_A_1 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (y : S640x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.2.1 S8x256.size (by sl_kernel_rfl) y

/-- What case A leaves in scratch `arg16`: its pieces read back over junk. -/
def sout0_A_1 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) : Vec F S640x256 .i32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.2.1)

/-- Case B's pieces for output 11 tile its block (3 stores of `S1920x256`, checked by the kernel's evaluation: Lib/Ring.lean `Piece.tiledL`, linear in the pieces, through a loop's `@[irreducible]` trip theorem too), so they cover it. -/
theorem cover0_B_11 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (xo12 : Vec F S1920x2560 .fp8e4m3) (xo13 : Vec F S1920x1 .f32) (xs1 : Vec F S640x256 .i32) (y : S1920x768.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).1 S1920x256.size (by sl_kernel_rfl) y

/-- What case B leaves in output 11's staging buffer: its pieces read back over junk. -/
def out0_B_11 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (xo12 : Vec F S1920x2560 .fp8e4m3) (xo13 : Vec F S1920x1 .f32) (xs1 : Vec F S640x256 .i32) : Vec F S1920x768 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).1)

/-- Case B's pieces for scratch `arg16`, which the kernel carries between points, cover it: 80 pieces of `S8x256` tiling it (Lib/Ring.lean `Piece.tiledL`). -/
theorem scover0_B_1 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (xo12 : Vec F S1920x2560 .fp8e4m3) (xo13 : Vec F S1920x1 .f32) (xs1 : Vec F S640x256 .i32) (y : S640x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).2.1 S8x256.size (by sl_kernel_rfl) y

/-- What case B leaves in scratch `arg16`: its pieces read back over junk. -/
def sout0_B_1 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (xo12 : Vec F S1920x2560 .fp8e4m3) (xo13 : Vec F S1920x1 .f32) (xs1 : Vec F S640x256 .i32) : Vec F S640x256 .i32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1920x768 .bf16 × Vec F S1920x2560 .fp8e4m3 × Vec F S1920x1 .f32 × Vec F S640x256 .i32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 9 = 0 then
      if h1 : 1 ≤ (n + 1) then
        False.elim (by have hN : n + 1 < 9 := lt_of_lt_of_eq hn (show cfg0.N = 9 from N_0); omega)
      else
        (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      if h1 : 1 ≤ (n + 1) then
        (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.1, (outsAt0 c n (Nat.lt_of_succ_lt hn)).2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2)
      else
        False.elim (by have hN : n + 1 < 9 := lt_of_lt_of_eq hn (show cfg0.N = 9 from N_0); omega)

/-- `outsAt0` at a point of case A: that case's contents. -/
theorem outsAt0_A (c : Dev nD) (t : Fin cfg0.N) (h0 : t.val % 9 = 0) (h1 : ¬1 ≤ t.val) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 9 = 0) (h1 : 1 ≤ t.val) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, (outsAt0 m c (t.val - 1) (Nat.lt_of_le_of_lt (Nat.sub_le _ _) t.isLt)).2.1, (outsAt0 m c (t.val - 1) (Nat.lt_of_le_of_lt (Nat.sub_le _ _) t.isLt)).2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the launch's
    (`PhiS`: the launch's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- Output 12's contents CARRY through the points that leave it idle: at such a point, its buffer not fresh, the proof data's
    `after` is the point before's (the case there stores nothing into the window and its term says so; a case that stores
    into it is not idle there by `liveAt0_12_κ`) — the hypothesis of Lib/Pipeline/TableIdle.lean `Dat.before_out_traj`. -/
theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 9 := lt_of_lt_of_eq t.isLt (show cfg0.N = 9 from N_0)
  rw [after0_12, after0_12]
  by_cases h0 : t.val % 9 = 0
  · by_cases h1 : 1 ≤ t.val
    · exfalso; omega
    · rw [liveAt0_12_A t ((hcond0_0 t).mpr h0)] at hi
      exact absurd hi Bool.false_ne_true
  · rw [outsAt0_B m c t h0 (by omega)]

/-- Output 13's contents CARRY through the points that leave it idle: at such a point, its buffer not fresh, the proof data's
    `after` is the point before's (the case there stores nothing into the window and its term says so; a case that stores
    into it is not idle there by `liveAt0_13_κ`) — the hypothesis of Lib/Pipeline/TableIdle.lean `Dat.before_out_traj`. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 9 := lt_of_lt_of_eq t.isLt (show cfg0.N = 9 from N_0)
  rw [after0_13, after0_13]
  by_cases h0 : t.val % 9 = 0
  · by_cases h1 : 1 ≤ t.val
    · exfalso; omega
    · rw [liveAt0_13_A t ((hcond0_0 t).mpr h0)] at hi
      exact absurd hi Bool.false_ne_true
  · rw [outsAt0_B m c t h0 (by omega)]
/-- At a point of case B output 12's current staging buffer holds what the point before left: the buffer is not fresh
    there (`notFresh0_12_B`: stored into since the region's entry or the last write-back, carried through the points that
    leave it idle by `hcarry0_12`; Lib/Pipeline/TableIdle.lean `Dat.before_out_traj`). -/
theorem before0_12_B (c : Dev nD) (t : Fin cfg0.N) (h0 : ¬t.val % 9 = 0) (h1 : 1 ≤ t.val) (d) :
    (dats m 0 c).before 12 t d = (outsAt0 m c (t.val - 1) (Nat.lt_of_le_of_lt (Nat.sub_le _ _) t.isLt)).2.1 := by
  rw [Dat.before_out_traj _ 12 rfl (fun _ _ => rfl) (hcarry0_12 m c) t.val t rfl d,
    if_neg (by rw [notFresh0_12_B t (fun h => h0 ((hcond0_0 t).mp h))]; exact Bool.false_ne_true)]
  dsimp only [dats]
/-- At a point of case B output 13's current staging buffer holds what the point before left: the buffer is not fresh
    there (`notFresh0_13_B`: stored into since the region's entry or the last write-back, carried through the points that
    leave it idle by `hcarry0_13`; Lib/Pipeline/TableIdle.lean `Dat.before_out_traj`). -/
theorem before0_13_B (c : Dev nD) (t : Fin cfg0.N) (h0 : ¬t.val % 9 = 0) (h1 : 1 ≤ t.val) (d) :
    (dats m 0 c).before 13 t d = (outsAt0 m c (t.val - 1) (Nat.lt_of_le_of_lt (Nat.sub_le _ _) t.isLt)).2.2.1 := by
  rw [Dat.before_out_traj _ 13 rfl (fun _ _ => rfl) (hcarry0_13 m c) t.val t rfl d,
    if_neg (by rw [notFresh0_13_B t (fun h => h0 ((hcond0_0 t).mp h))]; exact Bool.false_ne_true)]
  dsimp only [dats]

/-- At a point of case B the body leaves output 12's buffer as it found it, which is what the point before left: whether the
    point writes the block back (the last one) or not, that is what the pipeline asks of it. -/
theorem leaves0_12_B (c : Dev nD) (t : Fin cfg0.N) (h0 : ¬t.val % 9 = 0) (h1 : 1 ≤ t.val) :
    owns (c : Thread nD τ) (ms0_12 t) fullShare ((outsAt0 m c (t.val - 1) (Nat.lt_of_le_of_lt (Nat.sub_le _ _) t.isLt)).2.1) ⊢ (dats m 0 c).leavesExact 12 t := by
  cases hf : (cfg0.win 12).flush t
  · rw [Dat.leavesExact_idle _ 12 t (idleAt0_12_B t (fun h => h0 ((hcond0_0 t).mp h))) hf]
    simp only [before0_12_B m c t h0 h1]
    iintro H; iexists VO0_12.junk; iexact H
  · unfold Dat.leavesExact
    rw [idleAt0_12_B t (fun h => h0 ((hcond0_0 t).mp h)), hf, after0_12, outsAt0_B m c t h0 h1]

/-- At a point of case B the body leaves output 13's buffer as it found it, which is what the point before left: whether the
    point writes the block back (the last one) or not, that is what the pipeline asks of it. -/
theorem leaves0_13_B (c : Dev nD) (t : Fin cfg0.N) (h0 : ¬t.val % 9 = 0) (h1 : 1 ≤ t.val) :
    owns (c : Thread nD τ) (ms0_13 t) fullShare ((outsAt0 m c (t.val - 1) (Nat.lt_of_le_of_lt (Nat.sub_le _ _) t.isLt)).2.2.1) ⊢ (dats m 0 c).leavesExact 13 t := by
  cases hf : (cfg0.win 13).flush t
  · rw [Dat.leavesExact_idle _ 13 t (idleAt0_13_B t (fun h => h0 ((hcond0_0 t).mp h))) hf]
    simp only [before0_13_B m c t h0 h1]
    iintro H; iexists VO0_13.junk; iexact H
  · unfold Dat.leavesExact
    rw [idleAt0_13_B t (fun h => h0 ((hcond0_0 t).mp h)), hf, after0_13, outsAt0_B m c t h0 h1]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  by_cases h0 : t.val % 9 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12_A t ((hcond0_0 t).mpr h0)], after0_12]
      rw [show (dats m 0 c).leavesExact 13 t = owns (c : Thread nD τ) (ms0_13 t) fullShare ((dats m 0 c).after 13 t) from by
      unfold Dat.leavesExact; rw [liveAt0_13_A t ((hcond0_0 t).mpr h0)], after0_13]
      by_cases hz : t.val = 0
      · rw [PhiS_castSucc m c t, PhiS_zero m c _ _ hz, PhiA0_eq]
        rw [outsAt0_A m c t h0 h1]
        unfold out0_A_11 out0_A_12 out0_A_13 sout0_A_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [HS0]; · iexact HS0
        isplitl [HS1]; · iexact HS1
        isplitl [HS2]; · iexact HS2
        isplitl [HS3]; · iexact HS3
        iintro ⟨H0, H1, H2, H3, H4, H5, H6, H7, H8, H9, H10, ⟨%e11, H11⟩, ⟨%e12, H12⟩, ⟨%e13, H13⟩, ⟨%fT0, HS0⟩, ⟨%es1, HS1⟩, ⟨%fT2, HS2⟩, ⟨%fT3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _)
      · exfalso; have hN : t.val < 9 := lt_of_lt_of_eq t.isLt (show cfg0.N = 9 from N_0); omega
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · exfalso; have hN : t.val < 9 := lt_of_lt_of_eq t.isLt (show cfg0.N = 9 from N_0); omega
      · rw [PhiS_castSucc m c t, PhiS_pos m c _ _ hz]
        rw [outsAt0_B m c t h0 h1]
        simp only [before0_12_B m c t h0 h1, before0_13_B m c t h0 h1]
        unfold out0_B_11 sout0_B_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [H13]; · iexact H13
        isplitl [HS0]; · iexact HS0
        isplitl [HS1]; · iexact HS1
        isplitl [HS2]; · iexact HS2
        isplitl [HS3]; · iexact HS3
        iintro ⟨H0, H1, H2, H3, H4, H5, H6, H7, H8, H9, H10, ⟨%e11, H11⟩, H12, H13, ⟨%fT0, HS0⟩, ⟨%es1, HS1⟩, ⟨%fT2, HS2⟩, ⟨%fT3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _)
        isplitl [H12]; · iapply leaves0_12_B m c t h0 h1; iexact H12
        iapply leaves0_13_B m c t h0 h1; iexact H13
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Machine

end
-- ==== Proof.Named.Runs.lean ====
module

public import proofs.«01_k».proof.Proof.Gen.KernelIdeal.Launch
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Named

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! The body of the kernel run in each of its two cases shares these facts: where the branch is taken, which windows
   are idle where, the memrefs of each window. -/
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, k0_cond1, e0]
    word_cmp
   : ∀ t : Fin grid0.N, cond0_0 (grid0.coords t) ↔ t.val % 9 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an output stored at every point, under no condition). -/
theorem liveAt0_11 : ∀ t : Fin cfg0.N, cfg0.idle 11 (grid0.coords t) = false := fun _ => rfl
/-- Whether output 12's buffer is FRESH at each position `1 ‥ N` — holds nothing the body stored since the region's entry or the
    last write-back (written back at the point before, or idle there and fresh before it) —, as a bitmask the classifier
    computed, bit `n` for position `n + 1`; position 0 is fresh. `freshTab0_12_step` checks it against the configuration's own
    step point by point and Lib/Pipeline/TableIdle.lean `Cfg.fresh_tab` makes it `Cfg.fresh` (`fresh0_12_eq`). -/
def freshTab0_12 : ℕ → Bool
  | 0 => true
  | n + 1 => (0x100 : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
/-- At the points of case A the printed configuration (`Cfg.idle`) calls output 12 live: the case stores into it. -/
theorem liveAt0_12_A : ∀ t : Fin cfg0.N, cond0_0 (grid0.coords t) → cfg0.idle 12 (grid0.coords t) = false := by decide +kernel
/-- At the points of case B the configuration calls output 12 idle: the case stores nothing into it. -/
theorem idleAt0_12_B : ∀ t : Fin cfg0.N, ¬cond0_0 (grid0.coords t) → cfg0.idle 12 (grid0.coords t) = true := by decide +kernel
/-- At the points of case B, which keeps output 12's prior contents (reads it before covering, or covers it in part), the
    window's buffer is not FRESH: something was stored into it since the region's entry or its last write-back, idle points
    between or not (Lib/Pipeline/TableIdle.lean `Cfg.fresh`, by the table `freshTab0_12`). -/
theorem notFresh0_12_B : ∀ t : Fin cfg0.N, ¬cond0_0 (grid0.coords t) → cfg0.fresh 12 t.val = false := by
  intro t; rw [fresh0_12_eq t]; revert t; decide +kernel
/-- Whether output 13's buffer is FRESH at each position `1 ‥ N` — holds nothing the body stored since the region's entry or the
    last write-back (written back at the point before, or idle there and fresh before it) —, as a bitmask the classifier
    computed, bit `n` for position `n + 1`; position 0 is fresh. `freshTab0_13_step` checks it against the configuration's own
    step point by point and Lib/Pipeline/TableIdle.lean `Cfg.fresh_tab` makes it `Cfg.fresh` (`fresh0_13_eq`). -/
def freshTab0_13 : ℕ → Bool
  | 0 => true
  | n + 1 => (0x100 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- At the points of case A the printed configuration (`Cfg.idle`) calls output 13 live: the case stores into it. -/
theorem liveAt0_13_A : ∀ t : Fin cfg0.N, cond0_0 (grid0.coords t) → cfg0.idle 13 (grid0.coords t) = false := by decide +kernel
/-- At the points of case B the configuration calls output 13 idle: the case stores nothing into it. -/
theorem idleAt0_13_B : ∀ t : Fin cfg0.N, ¬cond0_0 (grid0.coords t) → cfg0.idle 13 (grid0.coords t) = true := by decide +kernel
/-- At the points of case B, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_B : ∀ t : Fin cfg0.N, ¬cond0_0 (grid0.coords t) → cfg0.fresh 13 t.val = false := by
  intro t; rw [fresh0_13_eq t]; revert t; decide +kernel

/-! ## The kernel body on any staging memrefs: a subtype the run finds -/

/-- One staging buffer of output window 11, through which its contents are stated (`View.read_writes_of_cover`: the
    choice does not matter). -/
abbrev VO0_11 : View sig .tc .vmem S1920x768 .bf16 := (Memref.whole cc0_stg11_0 : Memref sig .tc .vmem S1920x768 .bf16).view
/-- One staging buffer of output window 12, through which its contents are stated (`View.read_writes_of_cover`: the
    choice does not matter). -/
abbrev VO0_12 : View sig .tc .vmem S1920x2560 .fp8e4m3 := (Memref.whole cc0_stg12_0 : Memref sig .tc .vmem S1920x2560 .fp8e4m3).view
/-- One staging buffer of output window 13, through which its contents are stated (`View.read_writes_of_cover`: the
    choice does not matter). -/
abbrev VO0_13 : View sig .tc .vmem S1920x1 .f32 := (Memref.whole cc0_stg13_0 : Memref sig .tc .vmem S1920x1 .f32).view
/-- Each window's current staging memref at point `t`, spelled as the pipeline passes it (`bodyAt0`), and its wholeness. -/
abbrev ms0_0 (t : Fin cfg0.N) : Memref sig .tc .vmem S1920x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2560 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1280 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x80 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1280 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x80 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1280 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x80 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1280 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x80 .i32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1920x768 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1920x2560 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1920x1 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S80x256 .i32 := Memref.whole cc0_scratch0
abbrev scM0_1 : Memref sig .tc .vmem S640x256 .i32 := Memref.whole cc0_scratch1
abbrev scM0_2 : Memref sig .tc .vmem S640x256 .i32 := Memref.whole cc0_scratch2
abbrev scM0_3 : Memref sig .tc .vmem S640x256 .i32 := Memref.whole cc0_scratch3
/-- The scratch `arg16` the kernel carries between points, as a view: what it holds is stated through it. -/
abbrev VS0_1 : View sig .tc .vmem S640x256 .i32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Named

end
-- ==== Proof.Named.RunA.lean ====
module

public import proofs.«01_k».proof.Proof.Named.Runs

@[expose] public section

set_option maxRecDepth 16384

noncomputable section

namespace Cert.KernelIdeal.Named

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 7172000 in
/-- What the body's stores leave in each output's staging memref, as pieces (last first) IN CASE A (the branch taken: point 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) :
    Σ' (L11 : List (View.Piece (Elt F) S1920x768 .bf16)), Σ' (L12 : List (View.Piece (Elt F) S1920x2560 .fp8e4m3)), Σ' (L13 : List (View.Piece (Elt F) S1920x1 .f32)), Σ' (LS1 : List (View.Piece (Elt F) S640x256 .i32)), Σ' (LT0 : List (View.Piece (Elt F) S80x256 .i32)), Σ' (LT2 : List (View.Piece (Elt F) S640x256 .i32)), { LT3 : List (View.Piece (Elt F) S640x256 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LT0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LT2) ∗ (∃ f, arg18.view.loc (c : Thread nD τ) ↦[arg18.view.set]{fullShare} arg18.view.writes (Elt F) f LT3)) -∗ K ⟨⟩))
          ⊢ wp frame (wpE (defs₀ (F := F)) Variants.none c none) E (cc0_sparse24_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0_sparse24_linear_eq_skeleton]; unfold cc0_sparse24_linear_skel
    simp only [k0_part206_eq_skeleton, k0_part53_eq_skeleton, k0_part52_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part207_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    have hrd0 : ∀ (𝒱 : Variants) (c : Dev nD) (bd : Option 𝒱.V) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (k0_h1 : k0_cond1 i = 1#1) (X_arg1 : BufTy.Contents (Elt F) arg1.view.ty) (X_arg2 : BufTy.Contents (Elt F) arg2.view.ty) (hrdF : BufTy.Contents (Elt F) arg13.view.ty) (hrdB : LoadRect S1920x2560), arg13.view.readAt (Elt F) hrdB (arg13.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 (Scf.trips k0_t1_loop.lb k0_t1_loop.ub k0_t1_loop.st)).1) = arg13.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 (Scf.trips k0_t1_loop.lb k0_t1_loop.ub k0_t1_loop.st)).1 S32x2560.size (by sl_kernel_rfl) (hrdB.idx hrdJ))
    have hrd1 : ∀ (𝒱 : Variants) (c : Dev nD) (bd : Option 𝒱.V) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (k0_h1 : k0_cond1 i = 1#1) (X_arg1 : BufTy.Contents (Elt F) arg1.view.ty) (X_arg2 : BufTy.Contents (Elt F) arg2.view.ty) (hrdF : BufTy.Contents (Elt F) arg14.view.ty) (hrdB : LoadRect S1920x1), arg14.view.readAt (Elt F) hrdB (arg14.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 (Scf.trips k0_t1_loop.lb k0_t1_loop.ub k0_t1_loop.st)).2) = arg14.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg2 (Scf.trips k0_t1_loop.lb k0_t1_loop.ub k0_t1_loop.st)).2 S32x1.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [HS0]; · iexists _; iexact HS0
    isplitl [HS1]; · iexists _; iexact HS1
    isplitl [HS2]; · iexists _; iexact HS2
    iexists _; iexact HS3

end Cert.KernelIdeal.Named

end
-- ==== Proof.Named.RunB.lean ====
module

public import proofs.«01_k».proof.Proof.Named.RunA

@[expose] public section

set_option maxRecDepth 16384

noncomputable section

namespace Cert.KernelIdeal.Named

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5392000 in
/-- What the body's stores leave in each output's staging memref, as pieces (last first) IN CASE B (the branch not taken: points 1 to 8), WITH the
    proof that on whole staging memrefs — the inputs' at their contents, the outputs 12 and 13, which it reads only, at their contents `xo·` and handed back so, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (xo12 : Vec F S1920x2560 .fp8e4m3) (xo13 : Vec F S1920x1 .f32) (xs1 : Vec F S640x256 .i32) :
    Σ' (L11 : List (View.Piece (Elt F) S1920x768 .bf16)), Σ' (LS1 : List (View.Piece (Elt F) S640x256 .i32)), Σ' (LT0 : List (View.Piece (Elt F) S80x256 .i32)), Σ' (LT2 : List (View.Piece (Elt F) S640x256 .i32)), { LT3 : List (View.Piece (Elt F) S640x256 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xo12 ∗ owns (c : Thread nD τ) arg14 fullShare xo13 ∗ (∃ d, owns (c : Thread nD τ) arg15 fullShare d) ∗ owns (c : Thread nD τ) arg16 fullShare xs1 ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ owns (c : Thread nD τ) arg13 fullShare xo12 ∗ owns (c : Thread nD τ) arg14 fullShare xo13 ∗ (∃ f, arg15.view.loc (c : Thread nD τ) ↦[arg15.view.set]{fullShare} arg15.view.writes (Elt F) f LT0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LT2) ∗ (∃ f, arg18.view.loc (c : Thread nD τ) ↦[arg18.view.set]{fullShare} arg18.view.writes (Elt F) f LT3)) -∗ K ⟨⟩))
          ⊢ wp frame (wpE (defs₀ (F := F)) Variants.none c none) E (cc0_sparse24_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_sparse24_linear_eq_skeleton]; unfold cc0_sparse24_linear_skel
    simp only [k0_part206_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part207_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%ds0, %fs0, -, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12; obtain rfl := harg14.eq_unread hf13; obtain rfl := harg16.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]
    · iexists _; isplitr; · ipureintro; exact harg13.read_unread _
      iexact H12
    isplitl [H13]
    · iexists _; isplitr; · ipureintro; exact harg14.read_unread _
      iexact H13
    isplitl [HS0]; · iexists _; iexact HS0
    isplitl [HS1]; · iexists _; iexact HS1
    isplitl [HS2]; · iexists _; iexact HS2
    iexists _; iexact HS3

end Cert.KernelIdeal.Named

end
-- ==== Proof.Named.Frame.lean ====
module

public import proofs.«01_k».proof.Proof.Named.RunB
public import Idealize.ShloMosaic.Lib.Claim

@[expose] public section

set_option maxRecDepth 16384

noncomputable section

namespace Cert.KernelIdeal.Named

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 11 tile its block (3 stores of `S1920x256`, checked by the kernel's evaluation: Lib/Ring.lean `Piece.tiledL`, linear in the pieces, through a loop's `@[irreducible]` trip theorem too), so they cover it. -/
theorem cover0_A_11 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (y : S1920x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).1 S1920x256.size (by sl_kernel_rfl) y

/-- What case A leaves in output 11's staging buffer: its pieces read back over junk. -/
def out0_A_11 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) : Vec F S1920x768 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).1)

/-- Case A's pieces for output 12 tile its block (60 stores of `S32x2560`, checked by the kernel's evaluation: Lib/Ring.lean `Piece.tiledL`, linear in the pieces, through a loop's `@[irreducible]` trip theorem too), so they cover it. -/
theorem cover0_A_12 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (y : S1920x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.1 S32x2560.size (by sl_kernel_rfl) y

/-- What case A leaves in output 12's staging buffer: its pieces read back over junk. -/
def out0_A_12 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) : Vec F S1920x2560 .fp8e4m3 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.1)

/-- Case A's pieces for output 13 tile its block (60 stores of `S32x1`, checked by the kernel's evaluation: Lib/Ring.lean `Piece.tiledL`, linear in the pieces, through a loop's `@[irreducible]` trip theorem too), so they cover it. -/
theorem cover0_A_13 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (y : S1920x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.1 S32x1.size (by sl_kernel_rfl) y

/-- What case A leaves in output 13's staging buffer: its pieces read back over junk. -/
def out0_A_13 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) : Vec F S1920x1 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.1)

/-- Case A's pieces for scratch `arg16`, which the kernel carries between points, cover it: 160 pieces of `S8x256` tiling it (Lib/Ring.lean `Piece.tiledL`). -/
theorem scover0_A_1 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (y : S640x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.2.1 S8x256.size (by sl_kernel_rfl) y

/-- What case A leaves in scratch `arg16`: its pieces read back over junk. -/
def sout0_A_1 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) : Vec F S640x256 .i32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.2.1)

/-- Case B's pieces for output 11 tile its block (3 stores of `S1920x256`, checked by the kernel's evaluation: Lib/Ring.lean `Piece.tiledL`, linear in the pieces, through a loop's `@[irreducible]` trip theorem too), so they cover it. -/
theorem cover0_B_11 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (xo12 : Vec F S1920x2560 .fp8e4m3) (xo13 : Vec F S1920x1 .f32) (xs1 : Vec F S640x256 .i32) (y : S1920x768.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).1 S1920x256.size (by sl_kernel_rfl) y

/-- What case B leaves in output 11's staging buffer: its pieces read back over junk. -/
def out0_B_11 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (xo12 : Vec F S1920x2560 .fp8e4m3) (xo13 : Vec F S1920x1 .f32) (xs1 : Vec F S640x256 .i32) : Vec F S1920x768 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).1)

/-- Case B's pieces for scratch `arg16`, which the kernel carries between points, cover it: 80 pieces of `S8x256` tiling it (Lib/Ring.lean `Piece.tiledL`). -/
theorem scover0_B_1 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (xo12 : Vec F S1920x2560 .fp8e4m3) (xo13 : Vec F S1920x1 .f32) (xs1 : Vec F S640x256 .i32) (y : S640x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).2.1 S8x256.size (by sl_kernel_rfl) y

/-- What case B leaves in scratch `arg16`: its pieces read back over junk. -/
def sout0_B_1 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i)
    (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (xo12 : Vec F S1920x2560 .fp8e4m3) (xo13 : Vec F S1920x1 .f32) (xs1 : Vec F S640x256 .i32) : Vec F S640x256 .i32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1920x768 .bf16 × Vec F S1920x2560 .fp8e4m3 × Vec F S1920x1 .f32 × Vec F S640x256 .i32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 9 = 0 then
      if h1 : 1 ≤ (n + 1) then
        False.elim (by have hN : n + 1 < 9 := lt_of_lt_of_eq hn (show cfg0.N = 9 from N_0); omega)
      else
        (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      if h1 : 1 ≤ (n + 1) then
        (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.1, (outsAt0 c n (Nat.lt_of_succ_lt hn)).2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2)
      else
        False.elim (by have hN : n + 1 < 9 := lt_of_lt_of_eq hn (show cfg0.N = 9 from N_0); omega)

/-- `outsAt0` at a point of case A: that case's contents. -/
theorem outsAt0_A (c : Dev nD) (t : Fin cfg0.N) (h0 : t.val % 9 = 0) (h1 : ¬1 ≤ t.val) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 9 = 0) (h1 : 1 ≤ t.val) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, (outsAt0 m c (t.val - 1) (Nat.lt_of_le_of_lt (Nat.sub_le _ _) t.isLt)).2.1, (outsAt0 m c (t.val - 1) (Nat.lt_of_le_of_lt (Nat.sub_le _ _) t.isLt)).2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the launch's
    (`PhiS`: the launch's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- Output 12's contents CARRY through the points that leave it idle: at such a point, its buffer not fresh, the proof data's
    `after` is the point before's (the case there stores nothing into the window and its term says so; a case that stores
    into it is not idle there by `liveAt0_12_κ`) — the hypothesis of Lib/Pipeline/TableIdle.lean `Dat.before_out_traj`. -/
theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 9 := lt_of_lt_of_eq t.isLt (show cfg0.N = 9 from N_0)
  rw [after0_12, after0_12]
  by_cases h0 : t.val % 9 = 0
  · by_cases h1 : 1 ≤ t.val
    · exfalso; omega
    · rw [liveAt0_12_A t ((hcond0_0 t).mpr h0)] at hi
      exact absurd hi Bool.false_ne_true
  · rw [outsAt0_B m c t h0 (by omega)]

/-- Output 13's contents CARRY through the points that leave it idle: at such a point, its buffer not fresh, the proof data's
    `after` is the point before's (the case there stores nothing into the window and its term says so; a case that stores
    into it is not idle there by `liveAt0_13_κ`) — the hypothesis of Lib/Pipeline/TableIdle.lean `Dat.before_out_traj`. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 9 := lt_of_lt_of_eq t.isLt (show cfg0.N = 9 from N_0)
  rw [after0_13, after0_13]
  by_cases h0 : t.val % 9 = 0
  · by_cases h1 : 1 ≤ t.val
    · exfalso; omega
    · rw [liveAt0_13_A t ((hcond0_0 t).mpr h0)] at hi
      exact absurd hi Bool.false_ne_true
  · rw [outsAt0_B m c t h0 (by omega)]
/-- At a point of case B output 12's current staging buffer holds what the point before left: the buffer is not fresh
    there (`notFresh0_12_B`: stored into since the region's entry or the last write-back, carried through the points that
    leave it idle by `hcarry0_12`; Lib/Pipeline/TableIdle.lean `Dat.before_out_traj`). -/
theorem before0_12_B (c : Dev nD) (t : Fin cfg0.N) (h0 : ¬t.val % 9 = 0) (h1 : 1 ≤ t.val) (d) :
    (dats m 0 c).before 12 t d = (outsAt0 m c (t.val - 1) (Nat.lt_of_le_of_lt (Nat.sub_le _ _) t.isLt)).2.1 := by
  rw [Dat.before_out_traj _ 12 rfl (fun _ _ => rfl) (hcarry0_12 m c) t.val t rfl d,
    if_neg (by rw [notFresh0_12_B t (fun h => h0 ((hcond0_0 t).mp h))]; exact Bool.false_ne_true)]
  dsimp only [dats]
/-- At a point of case B output 13's current staging buffer holds what the point before left: the buffer is not fresh
    there (`notFresh0_13_B`: stored into since the region's entry or the last write-back, carried through the points that
    leave it idle by `hcarry0_13`; Lib/Pipeline/TableIdle.lean `Dat.before_out_traj`). -/
theorem before0_13_B (c : Dev nD) (t : Fin cfg0.N) (h0 : ¬t.val % 9 = 0) (h1 : 1 ≤ t.val) (d) :
    (dats m 0 c).before 13 t d = (outsAt0 m c (t.val - 1) (Nat.lt_of_le_of_lt (Nat.sub_le _ _) t.isLt)).2.2.1 := by
  rw [Dat.before_out_traj _ 13 rfl (fun _ _ => rfl) (hcarry0_13 m c) t.val t rfl d,
    if_neg (by rw [notFresh0_13_B t (fun h => h0 ((hcond0_0 t).mp h))]; exact Bool.false_ne_true)]
  dsimp only [dats]

/-- At a point of case B the body leaves output 12's buffer as it found it, which is what the point before left: whether the
    point writes the block back (the last one) or not, that is what the pipeline asks of it. -/
theorem leaves0_12_B (c : Dev nD) (t : Fin cfg0.N) (h0 : ¬t.val % 9 = 0) (h1 : 1 ≤ t.val) :
    owns (c : Thread nD τ) (ms0_12 t) fullShare ((outsAt0 m c (t.val - 1) (Nat.lt_of_le_of_lt (Nat.sub_le _ _) t.isLt)).2.1) ⊢ (dats m 0 c).leavesExact 12 t := by
  cases hf : (cfg0.win 12).flush t
  · rw [Dat.leavesExact_idle _ 12 t (idleAt0_12_B t (fun h => h0 ((hcond0_0 t).mp h))) hf]
    simp only [before0_12_B m c t h0 h1]
    iintro H; iexists VO0_12.junk; iexact H
  · unfold Dat.leavesExact
    rw [idleAt0_12_B t (fun h => h0 ((hcond0_0 t).mp h)), hf, after0_12, outsAt0_B m c t h0 h1]

/-- At a point of case B the body leaves output 13's buffer as it found it, which is what the point before left: whether the
    point writes the block back (the last one) or not, that is what the pipeline asks of it. -/
theorem leaves0_13_B (c : Dev nD) (t : Fin cfg0.N) (h0 : ¬t.val % 9 = 0) (h1 : 1 ≤ t.val) :
    owns (c : Thread nD τ) (ms0_13 t) fullShare ((outsAt0 m c (t.val - 1) (Nat.lt_of_le_of_lt (Nat.sub_le _ _) t.isLt)).2.2.1) ⊢ (dats m 0 c).leavesExact 13 t := by
  cases hf : (cfg0.win 13).flush t
  · rw [Dat.leavesExact_idle _ 13 t (idleAt0_13_B t (fun h => h0 ((hcond0_0 t).mp h))) hf]
    simp only [before0_13_B m c t h0 h1]
    iintro H; iexists VO0_13.junk; iexact H
  · unfold Dat.leavesExact
    rw [idleAt0_13_B t (fun h => h0 ((hcond0_0 t).mp h)), hf, after0_13, outsAt0_B m c t h0 h1]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  by_cases h0 : t.val % 9 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12_A t ((hcond0_0 t).mpr h0)], after0_12]
      rw [show (dats m 0 c).leavesExact 13 t = owns (c : Thread nD τ) (ms0_13 t) fullShare ((dats m 0 c).after 13 t) from by
      unfold Dat.leavesExact; rw [liveAt0_13_A t ((hcond0_0 t).mpr h0)], after0_13]
      by_cases hz : t.val = 0
      · rw [PhiS_castSucc m c t, PhiS_zero m c _ _ hz, PhiA0_eq]
        rw [outsAt0_A m c t h0 h1]
        unfold out0_A_11 out0_A_12 out0_A_13 sout0_A_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [HS0]; · iexact HS0
        isplitl [HS1]; · iexact HS1
        isplitl [HS2]; · iexact HS2
        isplitl [HS3]; · iexact HS3
        iintro ⟨H0, H1, H2, H3, H4, H5, H6, H7, H8, H9, H10, ⟨%e11, H11⟩, ⟨%e12, H12⟩, ⟨%e13, H13⟩, ⟨%fT0, HS0⟩, ⟨%es1, HS1⟩, ⟨%fT2, HS2⟩, ⟨%fT3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _)
      · exfalso; have hN : t.val < 9 := lt_of_lt_of_eq t.isLt (show cfg0.N = 9 from N_0); omega
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · exfalso; have hN : t.val < 9 := lt_of_lt_of_eq t.isLt (show cfg0.N = 9 from N_0); omega
      · rw [PhiS_castSucc m c t, PhiS_pos m c _ _ hz]
        rw [outsAt0_B m c t h0 h1]
        simp only [before0_12_B m c t h0 h1, before0_13_B m c t h0 h1]
        unfold out0_B_11 sout0_B_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [H13]; · iexact H13
        isplitl [HS0]; · iexact HS0
        isplitl [HS1]; · iexact HS1
        isplitl [HS2]; · iexact HS2
        isplitl [HS3]; · iexact HS3
        iintro ⟨H0, H1, H2, H3, H4, H5, H6, H7, H8, H9, H10, ⟨%e11, H11⟩, H12, H13, ⟨%fT0, HS0⟩, ⟨%es1, HS1⟩, ⟨%fT2, HS2⟩, ⟨%fT3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _)
        isplitl [H12]; · iapply leaves0_12_B m c t h0 h1; iexact H12
        iapply leaves0_13_B m c t h0 h1; iexact H13
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Named

end
-- ==== Proof.Words.lean ====
module

public import Idealize.ShloMosaic.Lib.Pointwise
public import Idealize.ShloMosaic.Lib.BitcastFour

/-!
  One group of four weights, of which two are kept.

  A group's two kept codes `v0`, `v1` and its two positions, two bits each in an index word, give four codes: `v0` at the
  first position, `v1` at the second, zero elsewhere. `code` says that of one of the four; `word` is the four as the bytes
  of one word, by two shifts and an or. Where the two positions differ the bytes of `word` are the `code`s.
-/

@[expose] public section

noncomputable section

namespace Cert.Words

open Idealize.ShloMosaic

/-- The two bits of an index word from bit `k`. -/
def pos (q : BitVec 32) (k : ℕ) : BitVec 32 := (q >>> k) &&& 3#32

/-- The code at place `p` of the group with the kept codes `v0`, `v1`, whose positions are in `q` from bit `4 * j`. -/
def code (v0 v1 : BitVec 8) (q : BitVec 32) (j p : ℕ) : BitVec 8 :=
  if pos q (4 * j) = BitVec.ofNat 32 p then v0 else if pos q (4 * j + 2) = BitVec.ofNat 32 p then v1 else 0#8

/-- The group's four codes in one word: `m` is the index word shifted down to the group. -/
def word (v0 v1 : BitVec 8) (m : BitVec 32) : BitVec 32 :=
  IntOp.ori (IntOp.shli .vector (v0.setWidth 32) (IntOp.andi (IntOp.shli .vector m 3#32) 24#32))
    (IntOp.shli .vector (v1.setWidth 32) (IntOp.andi (IntOp.shli .vector m 1#32) 24#32))

theorem shli_lt (u : ArithUnit) (x y : BitVec 32) (h : y.toNat < 32) : IntOp.shli u x y = x <<< y.toNat := by
  rw [IntOp.shli, if_pos h]; rfl

theorem shrui_lt (u : ArithUnit) (x y : BitVec 32) (h : y.toNat < 32) : IntOp.shrui u x y = x >>> y.toNat := by
  rw [IntOp.shrui, if_pos h]; rfl

theorem three_bit (i : ℕ) : (3#32 : BitVec 32).getLsbD i = decide (i < 2) := by
  rcases i with _ | _ | i
  · rfl
  · rfl
  · have : (3#32 : BitVec 32).getLsbD (i + 2) = false := by
      simp only [BitVec.getLsbD_ofNat, Bool.and_eq_false_iff]
      right
      exact Nat.testBit_lt_two_pow (lt_of_lt_of_le (by decide : 3 < 2 ^ 2) (Nat.pow_le_pow_right (by decide) (by omega)))
    rw [this]; simp

theorem twentyfour_bit (i : ℕ) (hi : i < 32) : (24#32 : BitVec 32).getLsbD i = decide (3 ≤ i ∧ i < 5) := by
  interval_cases i <;> rfl

theorem pos_toNat_lt (q : BitVec 32) (k : ℕ) : (pos q k).toNat < 4 := by
  unfold pos
  rw [BitVec.toNat_and]
  exact lt_of_le_of_lt Nat.and_le_right (by decide)

theorem pos_shift (q : BitVec 32) (k l : ℕ) : pos (q >>> k) l = pos q (k + l) := by
  unfold pos; rw [BitVec.shiftRight_add]

theorem s0_eq (m : BitVec 32) : IntOp.andi (IntOp.shli .vector m 3#32) 24#32 = pos m 0 <<< 3 := by
  rw [shli_lt _ _ _ (by decide), IntOp.andi, pos]
  apply BitVec.eq_of_getLsbD_eq
  intro i hi
  rw [BitVec.getLsbD_and, twentyfour_bit i hi]
  simp only [BitVec.getLsbD_shiftLeft, BitVec.getLsbD_and, three_bit, BitVec.getLsbD_ushiftRight, hi, decide_true, Bool.true_and,
    show (3#32 : BitVec 32).toNat = 3 from rfl, Nat.zero_add]
  by_cases h : 3 ≤ i ∧ i < 5
  · simp [h, show ¬ i < 3 by omega, show i - 3 < 2 by omega]
  · by_cases h3 : i < 3
    · simp [h3, show ¬(3 ≤ i ∧ i < 5) by omega]
    · simp [h, h3, show ¬ i - 3 < 2 by omega]

theorem s1_eq (m : BitVec 32) : IntOp.andi (IntOp.shli .vector m 1#32) 24#32 = pos m 2 <<< 3 := by
  rw [shli_lt _ _ _ (by decide), IntOp.andi, pos]
  apply BitVec.eq_of_getLsbD_eq
  intro i hi
  rw [BitVec.getLsbD_and, twentyfour_bit i hi]
  simp only [BitVec.getLsbD_shiftLeft, BitVec.getLsbD_and, three_bit, BitVec.getLsbD_ushiftRight, hi, decide_true, Bool.true_and,
    show (1#32 : BitVec 32).toNat = 1 from rfl]
  by_cases h : 3 ≤ i ∧ i < 5
  · simp [h, show ¬ i < 3 by omega, show i - 3 < 2 by omega, show ¬ i < 1 by omega, show 2 + (i - 3) = i - 1 by omega,
      show ¬ i = 0 by omega]
  · by_cases h3 : i < 3
    · simp [h3, show ¬(3 ≤ i ∧ i < 5) by omega]
    · simp [h, h3, show ¬ i - 3 < 2 by omega]

/-- Byte `p` of a code shifted up `a` bytes. -/
theorem shifted_bit (v : BitVec 8) (a : BitVec 32) (ha : a.toNat < 4) (p b : ℕ) (hp : p < 4) (hb : b < 8) :
    (IntOp.shli .vector (v.setWidth 32) (a <<< 3)).getLsbD (8 * p + b) = (decide (a = BitVec.ofNat 32 p) && v.getLsbD b) := by
  have h3 : (a <<< 3).toNat = 8 * a.toNat := by
    rw [BitVec.toNat_shiftLeft, Nat.shiftLeft_eq, Nat.mod_eq_of_lt (by omega)]; omega
  rw [shli_lt _ _ _ (by omega), h3, BitVec.getLsbD_shiftLeft, BitVec.getLsbD_setWidth]
  have hiff : (a = BitVec.ofNat 32 p) ↔ a.toNat = p := by
    constructor
    · rintro rfl; rw [BitVec.toNat_ofNat]; omega
    · intro h; apply BitVec.eq_of_toNat_eq; rw [BitVec.toNat_ofNat]; omega
  by_cases h : a.toNat = p
  · have e : 8 * p + b - 8 * a.toNat = b := by omega
    rw [e]
    simp [hiff, h, show 8 * p + b < 32 by omega, show b < 32 by omega]
  · by_cases h' : 8 * p + b < 8 * a.toNat
    · simp [hiff, h, h']
    · rw [BitVec.getLsbD_of_ge v (8 * p + b - 8 * a.toNat) (by omega)]
      simp [hiff, h]

/-- Byte `p` of the group's word is the code at place `p`, the two positions being different. -/
theorem word_bit (v0 v1 : BitVec 8) (q : BitVec 32) (j p b : ℕ) (hp : p < 4) (hb : b < 8)
    (hne : pos q (4 * j) ≠ pos q (4 * j + 2)) :
    (word v0 v1 (q >>> (4 * j))).getLsbD (8 * p + b) = (code v0 v1 q j p).getLsbD b := by
  rw [word, s0_eq, s1_eq, IntOp.ori, BitVec.getLsbD_or, pos_shift, pos_shift, Nat.add_zero,
    shifted_bit _ _ (pos_toNat_lt _ _) p b hp hb, shifted_bit _ _ (pos_toNat_lt _ _) p b hp hb, code]
  by_cases h0 : pos q (4 * j) = BitVec.ofNat 32 p
  · have h1 : ¬ pos q (4 * j + 2) = BitVec.ofNat 32 p := fun h => hne (h0.trans h.symm)
    simp [h0, h1]
  · by_cases h1 : pos q (4 * j + 2) = BitVec.ofNat 32 p
    · simp [h0, h1]
    · simp [h0, h1]

/-- The arithmetic shift of an index word, masked to two bits, is the two bits. -/
theorem host_pos (q : BitVec 32) (k : ℕ) (hk : k ≤ 30) :
    IntOp.andi (IntOp.shrsi .host q (BitVec.ofNat 32 k)) 3#32 = pos q k := by
  have hk' : (BitVec.ofNat 32 k).toNat = k := by rw [BitVec.toNat_ofNat]; omega
  rw [IntOp.shrsi, if_pos (by omega), IntOp.andi, pos, BitVec.sshiftRight', hk']
  apply BitVec.eq_of_getLsbD_eq
  intro i hi
  rw [BitVec.getLsbD_and, BitVec.getLsbD_and, three_bit, BitVec.getLsbD_sshiftRight, BitVec.getLsbD_ushiftRight]
  by_cases h : i < 2
  · simp [h, show k + i < 32 by omega, show ¬ 32 ≤ i by omega]
  · simp [h]

/-- The low byte of a signed code widened to sixteen bits and joined with another, and the byte above it. -/
theorem low_byte (a b : BitVec 8) :
    IntOp.andi ((b.signExtend 16 : BitVec 16) ++ (a.signExtend 16 : BitVec 16) : BitVec 32) 255#32 = a.setWidth 32 := by
  have e : ((b.signExtend 16 : BitVec 16) ++ (a.signExtend 16 : BitVec 16) : BitVec 32) &&& 255#32 = a.setWidth 32 := by
    apply BitVec.eq_of_getLsbD_eq
    intro i hi
    have h255 : (255#32 : BitVec 32).getLsbD i = decide (i < 8) := by interval_cases i <;> rfl
    rw [BitVec.getLsbD_and, h255, BitVec.getLsbD_append, BitVec.getLsbD_setWidth]
    by_cases h : i < 8
    · simp [h, show i < 16 by omega, BitVec.getElem_signExtend, hi]
    · simp [h, BitVec.getLsbD_of_ge a i (by omega)]
  exact e

theorem high_byte (a b : BitVec 8) :
    IntOp.andi (IntOp.shrui .vector ((b.signExtend 16 : BitVec 16) ++ (a.signExtend 16 : BitVec 16) : BitVec 32) 16#32) 255#32
      = b.setWidth 32 := by
  rw [shrui_lt _ _ _ (by decide)]
  have e : (((b.signExtend 16 : BitVec 16) ++ (a.signExtend 16 : BitVec 16) : BitVec 32) >>> 16) &&& 255#32 = b.setWidth 32 := by
    apply BitVec.eq_of_getLsbD_eq
    intro i hi
    have h255 : (255#32 : BitVec 32).getLsbD i = decide (i < 8) := by interval_cases i <;> rfl
    rw [BitVec.getLsbD_and, h255, BitVec.getLsbD_ushiftRight, BitVec.getLsbD_append, BitVec.getLsbD_setWidth]
    by_cases h : i < 8
    · simp [h, show i < 16 by omega, BitVec.getElem_signExtend, hi]
    · simp [h, BitVec.getLsbD_of_ge b i (by omega)]
  exact e

/-- The code at column `k` of a dense row, from the row's kept codes and its index words. -/
def rowCode (v : Fin 1280 → BitVec 8) (q : Fin 80 → BitVec 32) (k : Fin 2560) : BitVec 8 :=
  code (v ⟨2 * (k.val / 4), by omega⟩) (v ⟨2 * (k.val / 4) + 1, by omega⟩) (q ⟨k.val / 32, by omega⟩) (k.val / 4 % 8) (k.val % 4)

end Cert.Words

end
-- ==== Proof.Expand.lean ====
module

public import proofs.«01_k».proof.Proof.Gen.KernelIdeal.Skeleton
public import proofs.«01_k».proof.Proof.Words
public import Idealize.ShloMosaic.Lib.Pipeline.Value
public import Idealize.ShloMosaic.Lib.Pipeline.CanonAppend
public import Idealize.ShloMosaic.Lib.WholeRead

/-!
  The kernel's expansion of a tile: eighty stores of eight word rows each.

  A tile is 256 rows of weights, 1280 kept codes and 80 index words each. `pieces` are the eighty stores the kernel makes
  for one tile, as a function of the ten loads of codes and the eighty loads of index words; every one of the four places
  where the kernel expands a tile leaves this list. `expanded` is the array of words the list leaves.
-/

@[expose] public section

set_option maxRecDepth 16384

noncomputable section

namespace Cert.KernelIdeal.Named

open Cert.KernelIdeal.Gen
open Idealize.ShloMosaic Idealize.ShloMosaic.TcCoe

variable {F : FTy → Type} [FloatOps F] [Named F]

theorem slicesRows (i : Fin 8) : S64x256.Slices ![8 * i.val, 0] S8x256 :=
  ⟨rfl, fun a => by
    have := i.isLt
    fin_cases a
    · show 8 * i.val + 8 ≤ 64; omega
    · show 0 + 256 ≤ 256; omega⟩

theorem inbRows (g : Fin 80) : ∀ a, (![8 * g.val, 0] : Fin 2 → ℕ) a + S8x256.size a ≤ S640x256.size a := fun a => by
  have := g.isLt
  fin_cases a
  · show 8 * g.val + 8 ≤ 640; omega
  · show 0 + 256 ≤ 256; omega

theorem inbIdx (g : Fin 80) : ∀ a, (![g.val, 0] : Fin 2 → ℕ) a + S1x256.size a ≤ S80x256.size a := fun a => by
  have := g.isLt
  fin_cases a
  · show g.val + 1 ≤ 80; omega
  · show 0 + 256 ≤ 256; omega

theorem inbCodes (k : Fin 10) : ∀ a, (![0, 128 * k.val] : Fin 2 → ℕ) a + S256x128.size a ≤ S256x1280.size a := fun a => by
  have := k.isLt
  fin_cases a
  · show 0 + 256 ≤ 256; omega
  · show 128 * k.val + 128 ≤ 1280; omega

/-- The eight word rows of block `i` of a load of 128 codes, with the row of index words `q`. -/
def blk (i : Fin 8) (A : Vec F S256x128 .i8) (q : Vec F S1x256 .i32) : IVec S8x256 32 :=
  shapeCast S8x256 (ori
    (shli (andi (extractStridedSlice S8x256 ![8 * i.val, 0] (k0_pay8 A) (slicesRows i)) (broadcast S8x256 255#32))
      (andi (shli (shrui (broadcastTo S8x256 (shapeCast S1x256 q shapeCasts_S1x256_S1x256) broadcasts_S1x256_S8x256) k0_pay7)
        (broadcast S8x256 3#32)) (broadcast S8x256 24#32)))
    (shli (andi (shrui (extractStridedSlice S8x256 ![8 * i.val, 0] (k0_pay8 A) (slicesRows i)) (broadcast S8x256 16#32))
        (broadcast S8x256 255#32))
      (andi (shli (shrui (broadcastTo S8x256 (shapeCast S1x256 q shapeCasts_S1x256_S1x256) broadcasts_S1x256_S8x256) k0_pay7)
        (broadcast S8x256 1#32)) (broadcast S8x256 24#32)))) shapeCasts_S8x256_S8x256

/-- The store of block `g` of the tile. -/
def piece (A : Fin 10 → Vec F S256x128 .i8) (Q : Fin 80 → Vec F S1x256 .i32) (g : Fin 80) : View.Piece (Elt F) S640x256 .i32 :=
  ⟨Rect.unit (s := S640x256) ![8 * g.val, 0] S8x256.size (inbRows g),
    blk ⟨g.val % 8, Nat.mod_lt _ (by decide)⟩ (A ⟨g.val / 8, by have := g.isLt; omega⟩) (Q g)⟩

/-- The stores of one tile, the last one first. -/
def pieces (A : Fin 10 → Vec F S256x128 .i8) (Q : Fin 80 → Vec F S1x256 .i32) : List (View.Piece (Elt F) S640x256 .i32) :=
  [piece A Q ⟨79, by decide⟩, piece A Q ⟨78, by decide⟩, piece A Q ⟨77, by decide⟩, piece A Q ⟨76, by decide⟩, piece A Q ⟨75, by decide⟩,
   piece A Q ⟨74, by decide⟩, piece A Q ⟨73, by decide⟩, piece A Q ⟨72, by decide⟩, piece A Q ⟨71, by decide⟩, piece A Q ⟨70, by decide⟩,
   piece A Q ⟨69, by decide⟩, piece A Q ⟨68, by decide⟩, piece A Q ⟨67, by decide⟩, piece A Q ⟨66, by decide⟩, piece A Q ⟨65, by decide⟩,
   piece A Q ⟨64, by decide⟩, piece A Q ⟨63, by decide⟩, piece A Q ⟨62, by decide⟩, piece A Q ⟨61, by decide⟩, piece A Q ⟨60, by decide⟩,
   piece A Q ⟨59, by decide⟩, piece A Q ⟨58, by decide⟩, piece A Q ⟨57, by decide⟩, piece A Q ⟨56, by decide⟩, piece A Q ⟨55, by decide⟩,
   piece A Q ⟨54, by decide⟩, piece A Q ⟨53, by decide⟩, piece A Q ⟨52, by decide⟩, piece A Q ⟨51, by decide⟩, piece A Q ⟨50, by decide⟩,
   piece A Q ⟨49, by decide⟩, piece A Q ⟨48, by decide⟩, piece A Q ⟨47, by decide⟩, piece A Q ⟨46, by decide⟩, piece A Q ⟨45, by decide⟩,
   piece A Q ⟨44, by decide⟩, piece A Q ⟨43, by decide⟩, piece A Q ⟨42, by decide⟩, piece A Q ⟨41, by decide⟩, piece A Q ⟨40, by decide⟩,
   piece A Q ⟨39, by decide⟩, piece A Q ⟨38, by decide⟩, piece A Q ⟨37, by decide⟩, piece A Q ⟨36, by decide⟩, piece A Q ⟨35, by decide⟩,
   piece A Q ⟨34, by decide⟩, piece A Q ⟨33, by decide⟩, piece A Q ⟨32, by decide⟩, piece A Q ⟨31, by decide⟩, piece A Q ⟨30, by decide⟩,
   piece A Q ⟨29, by decide⟩, piece A Q ⟨28, by decide⟩, piece A Q ⟨27, by decide⟩, piece A Q ⟨26, by decide⟩, piece A Q ⟨25, by decide⟩,
   piece A Q ⟨24, by decide⟩, piece A Q ⟨23, by decide⟩, piece A Q ⟨22, by decide⟩, piece A Q ⟨21, by decide⟩, piece A Q ⟨20, by decide⟩,
   piece A Q ⟨19, by decide⟩, piece A Q ⟨18, by decide⟩, piece A Q ⟨17, by decide⟩, piece A Q ⟨16, by decide⟩, piece A Q ⟨15, by decide⟩,
   piece A Q ⟨14, by decide⟩, piece A Q ⟨13, by decide⟩, piece A Q ⟨12, by decide⟩, piece A Q ⟨11, by decide⟩, piece A Q ⟨10, by decide⟩,
   piece A Q ⟨9, by decide⟩, piece A Q ⟨8, by decide⟩, piece A Q ⟨7, by decide⟩, piece A Q ⟨6, by decide⟩, piece A Q ⟨5, by decide⟩,
   piece A Q ⟨4, by decide⟩, piece A Q ⟨3, by decide⟩, piece A Q ⟨2, by decide⟩, piece A Q ⟨1, by decide⟩, piece A Q ⟨0, by decide⟩]

theorem pieces_eq (A : Fin 10 → Vec F S256x128 .i8) (Q : Fin 80 → Vec F S1x256 .i32) :
    pieces A Q = (List.finRange 80).reverse.map (piece A Q) := by
  rfl

open Idealize.ShloMosaic in
theorem kept_apply (A : Vec F S256x128 .i8) (r : Fin 64) (n : Fin 256) :
    k0_pay8 A (ix2 r n) = ((A (ix2 n (⟨2 * r.val + 1, by have := r.isLt; omega⟩ : Fin 128)) : BitVec 8).signExtend 16 : BitVec 16)
      ++ ((A (ix2 n (⟨2 * r.val, by have := r.isLt; omega⟩ : Fin 128)) : BitVec 8).signExtend 16 : BitVec 16) := by
  unfold k0_pay8
  dsimp only
  rw [bitcast_16_32]
  have e : ∀ (p : ℕ) (hp) (hp' : p < 128), bitcasts_S128x256_w16_S64x256_w32.srcIdx (ix2 r n) p hp
      = (ix2 (⟨p, hp'⟩ : Fin 128) n : S128x256.Idx) := by
    intro p hp hp'
    funext a
    apply Fin.ext
    fin_cases a
    · exact Shape.Bitcasts.srcIdx_row _ _ _ _ _ rfl
    · exact Shape.Bitcasts.srcIdx_other _ _ _ _ _ (by decide)
  have er : S64x256.row (ix2 r n) = r.val := rfl
  have h1 := e (2 * S64x256.row (ix2 r n) + 1) (bitcasts_S128x256_w16_S64x256_w32.pair_lt _ 1 (by decide))
    (by have := r.isLt; omega)
  have h0 := e (2 * S64x256.row (ix2 r n)) (by simpa using bitcasts_S128x256_w16_S64x256_w32.pair_lt (ix2 r n) 0 (by decide))
    (by have := r.isLt; omega)
  rw [h1, h0]
  pointwise

/-- A block's word. -/
theorem blk_apply (i : Fin 8) (A : Vec F S256x128 .i8) (q : Vec F S1x256 .i32) (s : Fin 8) (n : Fin 256) :
    blk i A q (ix2 s n) = Words.word (A (ix2 n (⟨2 * (8 * i.val + s.val), by omega⟩ : Fin 128)))
      (A (ix2 n (⟨2 * (8 * i.val + s.val) + 1, by omega⟩ : Fin 128))) ((q (ix2 (0 : Fin 1) n) : BitVec 32) >>> (4 * s.val)) := by
  pointwise [blk, k0_pay7]
  have hs := s.isLt
  have hm : (IntOp.muli (BitVec.ofNat 32 s.val) 4#32 : BitVec 32).toNat = 4 * s.val := by
    rw [IntOp.muli, BitVec.toNat_mul, BitVec.toNat_ofNat]
    show (s.val % 2 ^ 32 * 4) % 2 ^ 32 = _
    omega
  rw [kept_apply, Words.low_byte, Words.high_byte, Words.shrui_lt _ _ _ (by omega), hm]
  rfl

/-- The words of a tile with the kept codes `wv` and the index words `wi`. -/
def expanded (wv : Vec F S256x1280 .i8) (wi : Vec F S256x80 .i32) : Vec F S640x256 .i32 := fun y =>
  Words.word (wv (ix2 (⟨(y 1).val, (y 1).isLt⟩ : Fin 256) (⟨2 * (y 0).val, by have : (y 0).val < 640 := (y 0).isLt; omega⟩ : Fin 1280)))
    (wv (ix2 (⟨(y 1).val, (y 1).isLt⟩ : Fin 256) (⟨2 * (y 0).val + 1, by have : (y 0).val < 640 := (y 0).isLt; omega⟩ : Fin 1280)))
    ((wi (ix2 (⟨(y 1).val, (y 1).isLt⟩ : Fin 256) (⟨(y 0).val / 8, by have : (y 0).val < 640 := (y 0).isLt; omega⟩ : Fin 80)) : BitVec 32)
      >>> (4 * ((y 0).val % 8)))

theorem expanded_apply (wv : Vec F S256x1280 .i8) (wi : Vec F S256x80 .i32) (r : Fin 640) (n : Fin 256) :
    expanded wv wi (ix2 r n) = Words.word (wv (ix2 n (⟨2 * r.val, by omega⟩ : Fin 1280))) (wv (ix2 n (⟨2 * r.val + 1, by omega⟩ : Fin 1280)))
      ((wi (ix2 n (⟨r.val / 8, by omega⟩ : Fin 80)) : BitVec 32) >>> (4 * (r.val % 8))) := rfl

/-- The eighty stores over anything leave the tile's words. -/
theorem canon_pieces (A : Fin 10 → Vec F S256x128 .i8) (Q : Fin 80 → Vec F S1x256 .i32) (wv : Vec F S256x1280 .i8)
    (wi : Vec F S256x80 .i32)
    (hA : ∀ (k : Fin 10) (n : Fin 256) (j : Fin 128), A k (ix2 n j) = wv (ix2 n (⟨128 * k.val + j.val, by omega⟩ : Fin 1280)))
    (hQ : ∀ (g : Fin 80) (n : Fin 256), Q g (ix2 (0 : Fin 1) n) = wi (ix2 n g)) (L : List (View.Piece (Elt F) S640x256 .i32)) :
    View.canon (pieces A Q ++ L) = expanded wv wi := by
  funext y
  rw [pieces_eq]
  refine View.canon_append_of_pieces (expanded wv wi) L _ ?_ y ?_
  · intro p hp x
    obtain ⟨g, -, rfl⟩ := List.mem_map.mp hp
    obtain ⟨s, n, rfl⟩ : ∃ (s : Fin 8) (n : Fin 256), x = ix2 s n := ⟨x 0, x 1, by funext a; fin_cases a <;> rfl⟩
    have hg := g.isLt
    have hs := s.isLt
    show blk _ _ _ (ix2 s n) = _
    have hy : (piece A Q g).1.emb (ix2 s n) = (ix2 (⟨8 * g.val + s.val, by omega⟩ : Fin 640) n : S640x256.Idx) := by
      funext a
      apply Fin.ext
      fin_cases a
      · show 8 * g.val + 1 * s.val = 8 * g.val + s.val; omega
      · show 0 + 1 * n.val = n.val; omega
    rw [blk_apply, hA, hA, hQ, hy, expanded_apply]
    have e1 : 128 * (g.val / 8) + 2 * (8 * (g.val % 8) + s.val) = 2 * (8 * g.val + s.val) := by omega
    have e2 : 128 * (g.val / 8) + (2 * (8 * (g.val % 8) + s.val) + 1) = 2 * (8 * g.val + s.val) + 1 := by omega
    have e3 : (8 * g.val + s.val) / 8 = g.val := by omega
    have e4 : (8 * g.val + s.val) % 8 = s.val := by omega
    simp only [e1, e2, e3, e4]
  · have hy0 : (y 0).val < 640 := (y 0).isLt
    refine ⟨piece A Q ⟨(y 0).val / 8, by omega⟩, List.mem_map.mpr ⟨_, by simp, rfl⟩, ?_⟩
    have e : (piece A Q ⟨(y 0).val / 8, by omega⟩).1.emb
        (ix2 (⟨(y 0).val % 8, Nat.mod_lt _ (by decide)⟩ : Fin 8) (⟨(y 1).val, (y 1).isLt⟩ : Fin 256)) = y := by
      funext a
      apply Fin.ext
      fin_cases a
      · show 8 * ((y 0).val / 8) + 1 * ((y 0).val % 8) = (y 0).val; omega
      · show 0 + 1 * (y 1).val = (y 1).val; omega
    have h := LoadRect.idx_mem (piece A Q ⟨(y 0).val / 8, by omega⟩).1.toLoadRect
      (ix2 (⟨(y 0).val % 8, Nat.mod_lt _ (by decide)⟩ : Fin 8) (⟨(y 1).val, (y 1).isLt⟩ : Fin 256))
    exact Eq.mp (congrArg (· ∈ (piece A Q ⟨(y 0).val / 8, by omega⟩).1.set) e) h

/-! ## The loads -/

/-- The ten loads of a tile's kept codes. -/
def loads {sg : RefSig} (a : Memref sg .tc .vmem S256x1280 .i8) (ha : a.IsWhole) (x : Vec F S256x1280 .i8) :
    Fin 10 → Vec F S256x128 .i8 := fun k =>
  View.readAt (Elt F) a.view (Rect.unit (s := S256x1280) ![0, 128 * k.val] S256x128.size (inbCodes k)).toLoadRect (ha.unread x)

/-- The store of a tile's index words, turned. -/
def idxStore {sg : RefSig} (a : Memref sg .tc .vmem S256x80 .i32) (ha : a.IsWhole) (x : Vec F S256x80 .i32) :
    View.Piece (Elt F) S80x256 .i32 :=
  ⟨Rect.unit (s := S80x256) ![0, 0] S80x256.size inb_S80x256_S80x256_0_0,
    k0_pay6 (View.readAt (Elt F) a.view (Rect.unit (s := S256x80) ![0, 0] S256x80.size inb_S256x80_S256x80_0_0).toLoadRect (ha.unread x))⟩

/-- The eighty loads of a tile's index words, after the stores `L`. -/
def idxLoads {sg : RefSig} (a : Memref sg .tc .vmem S80x256 .i32) (L : List (View.Piece (Elt F) S80x256 .i32)) :
    Fin 80 → Vec F S1x256 .i32 := fun g =>
  a.view.readCov L (Rect.unit (s := S80x256) ![g.val, 0] S1x256.size (inbIdx g)).toLoadRect

theorem loads_apply {sg : RefSig} (a : Memref sg .tc .vmem S256x1280 .i8) (ha : a.IsWhole) (x : Vec F S256x1280 .i8)
    (k : Fin 10) (n : Fin 256) (j : Fin 128) :
    loads a ha x k (ix2 n j) = x (ix2 n (⟨128 * k.val + j.val, by omega⟩ : Fin 1280)) := by
  refine (ha.readAt_unread x (Rect.unit (s := S256x1280) ![0, 128 * k.val] S256x128.size (inbCodes k)).toLoadRect (ix2 n j)).trans (congrArg x ?_)
  funext b
  apply Fin.ext
  fin_cases b
  · show 0 + 1 * n.val = n.val; omega
  · show 128 * k.val + 1 * j.val = 128 * k.val + j.val; omega

theorem idxLoads_apply {sg sg' : RefSig} (a' : Memref sg' .tc .vmem S80x256 .i32) (a : Memref sg .tc .vmem S256x80 .i32) (ha : a.IsWhole)
    (x : Vec F S256x80 .i32) (L : List (View.Piece (Elt F) S80x256 .i32)) (g : Fin 80) (n : Fin 256) :
    idxLoads a' (idxStore a ha x :: L) g (ix2 (0 : Fin 1) n) = x (ix2 n g) := by
  unfold idxLoads idxStore
  rw [View.readCov_eq_canon', View.canon_cons_unit_zero (by funext b; fin_cases b <;> rfl)]
  have e : (Rect.unit (s := S80x256) ![g.val, 0] S1x256.size (inbIdx g)).toLoadRect.idx (ix2 (0 : Fin 1) n) = (ix2 g n : S80x256.Idx) := by
    funext b
    apply Fin.ext
    fin_cases b
    · show g.val + 1 * 0 = g.val; omega
    · show 0 + 1 * n.val = n.val; omega
  refine (congrArg _ e).trans ?_
  pointwise [k0_pay6]
  refine (ha.readAt_unread x (Rect.unit (s := S256x80) ![0, 0] S256x80.size inb_S256x80_S256x80_0_0).toLoadRect (ix2 n g)).trans (congrArg x ?_)
  funext b
  apply Fin.ext
  fin_cases b
  · show 0 + 1 * n.val = n.val; omega
  · show 0 + 1 * g.val = g.val; omega

/-- The stores of a tile, loaded and stored as the kernel does, leave the tile's words. -/
theorem canon_tile {sg : RefSig} (av : Memref sg .tc .vmem S256x1280 .i8) (hav : av.IsWhole) (ai : Memref sg .tc .vmem S256x80 .i32)
    (hai : ai.IsWhole) (a15 : Memref sg .tc .vmem S80x256 .i32) (wv : Vec F S256x1280 .i8) (wi : Vec F S256x80 .i32)
    (L : List (View.Piece (Elt F) S80x256 .i32)) (L' : List (View.Piece (Elt F) S640x256 .i32)) :
    View.canon (pieces (loads av hav wv) (idxLoads a15 (idxStore ai hai wi :: L)) ++ L') = expanded wv wi :=
  canon_pieces _ _ wv wi (loads_apply av hav wv) (idxLoads_apply a15 ai hai wi L) L'

end Cert.KernelIdeal.Named

end
-- ==== Proof.Lists.lean ====
module

public import proofs.«01_k».proof.Proof.Named.Frame
public import proofs.«01_k».proof.Proof.Expand

@[expose] public section

set_option maxRecDepth 16384

noncomputable section

namespace Cert.KernelIdeal.Named

open Cert.KernelIdeal.Gen

open Idealize.ShloMosaic Idealize.ShloMosaic.TcCoe Idealize.ShloMosaic.Tactic

variable {F : FTy → Type} [FloatOps F] [Named F]
set_option maxHeartbeats 4000000

/-! The stores each grid point makes, as lists of pieces: what the run recorded, in closed form. -/

/-- The stores of the quantising loop: the codes and the scales, a band of rows a trip. -/
abbrev quantPieces (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec F S1920x2560 .bf16) (x1 : Vec F S1x2560 .f32) :
    List (View.Piece (Elt F) S1920x2560 .fp8e4m3) × List (View.Piece (Elt F) S1920x1 .f32) :=
  pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg2.unread x1) k0_t1_loop.trips

/-- One trip's stores. -/
theorem trip_pieces (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec F S1920x2560 .bf16) (x1 : Vec F S1x2560 .f32) (k : Fin k0_t1_loop.trips) :
    tripL_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg2.unread x1) k =
      (let xb := View.readAt (Elt F) arg1.view (Rect.unit (s := S1920x2560) (k0_off1 k) S32x2560.size (k0_off1_inb i k hc0)).toLoadRect (harg1.unread x0)
       let nw := View.readAt (Elt F) arg2.view (Rect.unit (s := S1x2560) ![0, 0] S1x2560.size inb_S1x2560_S1x2560_0_0).toLoadRect (harg2.unread x1)
       ([⟨Rect.unit (s := S1920x2560) (k0_off1 k) S32x2560.size (k0_off1_inb i k hc0), k0_pay5 (k0_pay2 xb nw) (k0_pay3 xb nw) 127#32⟩],
        [⟨Rect.unit (s := S1920x1) (k0_off2 k) S32x1.size (k0_off2_inb i k hc0), k0_pay4 (k0_pay3 xb nw)⟩])) := by
  sl_kernel_rfl

theorem pieces_A_y (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).1 =
    [⟨Rect.unit (s := S1920x768) ![0, 512] S1920x256.size inb_S1920x768_S1920x256_0_512,
        k0_pay262 (arg18.view.readCov (pieces (loads arg7 harg7 x6) (idxLoads arg15 [idxStore arg8 harg8 x7, idxStore arg6 harg6 x5, idxStore arg4 harg4 x3])) (Rect.unit (s := S640x256) ![0, 0] S640x256.size inb_S640x256_S640x256_0_0).toLoadRect) (arg13.view.readCov (quantPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1).1 (Rect.unit (s := S1920x2560) ![0, 0] S1920x2560.size inb_S1920x2560_S1920x2560_0_0).toLoadRect) (arg14.view.readCov (quantPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1).2 (Rect.unit (s := S1920x1) ![0, 0] S1920x1.size inb_S1920x1_S1920x1_0_0).toLoadRect) (View.readAt (Elt F) arg11.view (Rect.unit (s := S1x768) ![0, 512] S1x256.size inb_S1x768_S1x256_0_512).toLoadRect (harg11.unread x10))⟩,
      ⟨Rect.unit (s := S1920x768) ![0, 256] S1920x256.size inb_S1920x768_S1920x256_0_256,
        k0_pay262 (arg17.view.readCov (pieces (loads arg5 harg5 x4) (idxLoads arg15 [idxStore arg6 harg6 x5, idxStore arg4 harg4 x3])) (Rect.unit (s := S640x256) ![0, 0] S640x256.size inb_S640x256_S640x256_0_0).toLoadRect) (arg13.view.readCov (quantPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1).1 (Rect.unit (s := S1920x2560) ![0, 0] S1920x2560.size inb_S1920x2560_S1920x2560_0_0).toLoadRect) (arg14.view.readCov (quantPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1).2 (Rect.unit (s := S1920x1) ![0, 0] S1920x1.size inb_S1920x1_S1920x1_0_0).toLoadRect) (View.readAt (Elt F) arg11.view (Rect.unit (s := S1x768) ![0, 256] S1x256.size inb_S1x768_S1x256_0_256).toLoadRect (harg11.unread x10))⟩,
      ⟨Rect.unit (s := S1920x768) ![0, 0] S1920x256.size inb_S1920x768_S1920x256_0_0,
        k0_pay262 (arg16.view.readCov (pieces (loads arg3 harg3 x2) (idxLoads arg15 [idxStore arg4 harg4 x3])) (Rect.unit (s := S640x256) ![0, 0] S640x256.size inb_S640x256_S640x256_0_0).toLoadRect) (arg13.view.readCov (quantPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1).1 (Rect.unit (s := S1920x2560) ![0, 0] S1920x2560.size inb_S1920x2560_S1920x2560_0_0).toLoadRect) (arg14.view.readCov (quantPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1).2 (Rect.unit (s := S1920x1) ![0, 0] S1920x1.size inb_S1920x1_S1920x1_0_0).toLoadRect) (View.readAt (Elt F) arg11.view (Rect.unit (s := S1x768) ![0, 0] S1x256.size inb_S1x768_S1x256_0_0).toLoadRect (harg11.unread x10))⟩] := by
  sl_kernel_rfl

theorem pieces_A_xc (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.1 = (quantPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1).1 := by
  sl_kernel_rfl

theorem pieces_A_xs (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.1 = (quantPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1).2 := by
  sl_kernel_rfl

theorem pieces_A_w0 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).2.2.2.1 =
    (pieces (loads arg9 harg9 x8) (idxLoads arg15 [idxStore arg10 harg10 x9, idxStore arg8 harg8 x7, idxStore arg6 harg6 x5, idxStore arg4 harg4 x3])) ++ (pieces (loads arg3 harg3 x2) (idxLoads arg15 [idxStore arg4 harg4 x3])) := by
  sl_kernel_rfl

theorem pieces_B_y (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i) (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (xo12 : Vec F S1920x2560 .fp8e4m3) (xo13 : Vec F S1920x1 .f32) (xs1 : Vec F S640x256 .i32) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).1 =
    [⟨Rect.unit (s := S1920x768) ![0, 512] S1920x256.size inb_S1920x768_S1920x256_0_512,
        k0_pay262 (arg18.view.readCov (pieces (loads arg7 harg7 x6) (idxLoads arg15 [idxStore arg8 harg8 x7, idxStore arg6 harg6 x5])) (Rect.unit (s := S640x256) ![0, 0] S640x256.size inb_S640x256_S640x256_0_0).toLoadRect) (View.readAt (Elt F) arg13.view (Rect.unit (s := S1920x2560) ![0, 0] S1920x2560.size inb_S1920x2560_S1920x2560_0_0).toLoadRect (harg13.unread xo12)) (View.readAt (Elt F) arg14.view (Rect.unit (s := S1920x1) ![0, 0] S1920x1.size inb_S1920x1_S1920x1_0_0).toLoadRect (harg14.unread xo13)) (View.readAt (Elt F) arg11.view (Rect.unit (s := S1x768) ![0, 512] S1x256.size inb_S1x768_S1x256_0_512).toLoadRect (harg11.unread x10))⟩,
      ⟨Rect.unit (s := S1920x768) ![0, 256] S1920x256.size inb_S1920x768_S1920x256_0_256,
        k0_pay262 (arg17.view.readCov (pieces (loads arg5 harg5 x4) (idxLoads arg15 [idxStore arg6 harg6 x5])) (Rect.unit (s := S640x256) ![0, 0] S640x256.size inb_S640x256_S640x256_0_0).toLoadRect) (View.readAt (Elt F) arg13.view (Rect.unit (s := S1920x2560) ![0, 0] S1920x2560.size inb_S1920x2560_S1920x2560_0_0).toLoadRect (harg13.unread xo12)) (View.readAt (Elt F) arg14.view (Rect.unit (s := S1920x1) ![0, 0] S1920x1.size inb_S1920x1_S1920x1_0_0).toLoadRect (harg14.unread xo13)) (View.readAt (Elt F) arg11.view (Rect.unit (s := S1x768) ![0, 256] S1x256.size inb_S1x768_S1x256_0_256).toLoadRect (harg11.unread x10))⟩,
      ⟨Rect.unit (s := S1920x768) ![0, 0] S1920x256.size inb_S1920x768_S1920x256_0_0,
        k0_pay262 (View.readAt (Elt F) arg16.view (Rect.unit (s := S640x256) ![0, 0] S640x256.size inb_S640x256_S640x256_0_0).toLoadRect (harg16.unread xs1)) (View.readAt (Elt F) arg13.view (Rect.unit (s := S1920x2560) ![0, 0] S1920x2560.size inb_S1920x2560_S1920x2560_0_0).toLoadRect (harg13.unread xo12)) (View.readAt (Elt F) arg14.view (Rect.unit (s := S1920x1) ![0, 0] S1920x1.size inb_S1920x1_S1920x1_0_0).toLoadRect (harg14.unread xo13)) (View.readAt (Elt F) arg11.view (Rect.unit (s := S1x768) ![0, 0] S1x256.size inb_S1x768_S1x256_0_0).toLoadRect (harg11.unread x10))⟩] := by
  sl_kernel_rfl

theorem pieces_B_w0 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i) (x0 : Vec F S1920x2560 .bf16) (x1 : Vec F S1x2560 .f32) (x2 : Vec F S256x1280 .i8) (x3 : Vec F S256x80 .i32) (x4 : Vec F S256x1280 .i8) (x5 : Vec F S256x80 .i32) (x6 : Vec F S256x1280 .i8) (x7 : Vec F S256x80 .i32) (x8 : Vec F S256x1280 .i8) (x9 : Vec F S256x80 .i32) (x10 : Vec F S1x768 .f32) (xo12 : Vec F S1920x2560 .fp8e4m3) (xo13 : Vec F S1920x1 .f32) (xs1 : Vec F S640x256 .i32) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1).2.1 =
    (pieces (loads arg9 harg9 x8) (idxLoads arg15 [idxStore arg10 harg10 x9, idxStore arg8 harg8 x7, idxStore arg6 harg6 x5])) := by
  sl_kernel_rfl

end Cert.KernelIdeal.Named
end
end
-- ==== Proof.Quant.lean ====
module

public import Idealize.ShloMosaic.Lib.Pointwise
public import Idealize.ShloMosaic.Lib.IndicatorCount

/-!
  The row quantiser over the extended reals: its two exponents are one.

  Both programs scale a row `v` by a power of two, `2 ^ (-e)`, read off the row's largest magnitude times `1 / 448`, a
  number `t`. The kernel counts how many of the powers `2 ^ (f - 127)` are at most `t` and builds `2 ^ e` and `2 ^ (-e)`
  from words; the reference takes `⌊log t / log 2⌋ + 1`. They agree for every real `0 ≤ t < 2 ^ 126`, and `t` is such a
  number whenever the norm's weights are finite.
-/

@[expose] public section

noncomputable section

namespace Cert.Quant

open Idealize.ShloMosaic

/-- The factor `1 / 448` as both programs hold it. -/
def c448 : EReal := Ideal.ofBits .f32 0x3B124925#32
/-- The added epsilon. -/
def eps : EReal := Ideal.ofBits .f32 0x358637BD#32

/-- The largest magnitude of a row. -/
def amax (v : Fin 2560 → EReal) : EReal :=
  Finset.fold max (Ideal.ofBits .f32 0xFF800000#32) (fun k => max (v k) (-(v k))) Finset.univ

/-- How many of the 256 words `f <<< 23`, read as floats, are at most `t`. -/
def count (t : EReal) : BitVec 32 :=
  Finset.fold IntOp.addi (0#32) (fun f : Fin 256 => BitVec.setWidth 32 (BitVec.ofBool
    (decide (Ideal.ofBits .f32 (IntOp.shli .vector (BitVec.ofNat 32 f.val) 23#32) ≤ t)))) Finset.univ

/-- The kernel's exponent word. -/
def kexp (t : EReal) : BitVec 32 :=
  Scalar.select (IntOp.cmpi .eq (IntOp.subi (count t) 1#32) 0#32) 0#32 (IntOp.subi (IntOp.subi (count t) 1#32) 126#32)

/-- The reference's exponent. -/
def rexp (t : EReal) : EReal :=
  Scalar.select (Ideal.cmp .olt t (Ideal.ofBits .f32 0x00800000#32)) (Ideal.ofBits .f32 0x00000000#32)
    (Ideal.liftRound Int.floor (Ideal.div (Ideal.log t) (Ideal.log (Ideal.ofBits .f32 0x40000000#32)))
      + Ideal.ofBits .f32 0x3F800000#32)

theorem ieee_pow (b : BitVec 32) (n : ℕ) (h0 : 1 ≤ n) (h1 : n ≤ 254) (hx : (b.extractLsb' 23 8).toNat = n)
    (hf : (b.extractLsb' 0 23).toNat = 0) (hs : (b.extractLsb' (8 + 23) 1 == 1#1) = false) :
    Ideal.ieee 8 23 b = (((2 : ℝ) ^ ((n : ℤ) - 127) : ℝ) : EReal) := by
  have h2 : (2 : ℝ) ^ ((n : ℤ) - 127) = (2 : ℝ) ^ ((n : ℤ) - (2 ^ (8 - 1) - 1) - 23) * 8388608 := by
    rw [show (n : ℤ) - 127 = ((n : ℤ) - (2 ^ (8 - 1) - 1) - 23) + 23 by norm_num, zpow_add₀ (by norm_num : (2 : ℝ) ≠ 0)]
    norm_num
  rw [h2]
  unfold Ideal.ieee
  simp only [hx, hf, hs]
  have e1 : ¬ n = 2 ^ 8 - 1 := by omega
  have e2 : ¬ n = 0 := by omega
  simp only [e1, e2, if_false]
  refine congrArg (Real.toEReal) ?_
  push_cast
  generalize (2 : ℝ) ^ ((n : ℤ) - (2 ^ (8 - 1) - 1) - 23) = z
  norm_num [mul_comm]

/-- A word with a biased exponent alone is a power of two. -/
theorem ofBits_pow (n : ℕ) (h0 : 1 ≤ n) (h1 : n ≤ 254) :
    Ideal.ofBits .f32 (BitVec.ofNat 32 n <<< 23) = (((2 : ℝ) ^ ((n : ℤ) - 127) : ℝ) : EReal) := by
  have hx : ((BitVec.ofNat 32 n <<< 23).extractLsb' 23 8).toNat = n := by
    simp [BitVec.extractLsb'_toNat, BitVec.toNat_shiftLeft, Nat.shiftLeft_eq, Nat.shiftRight_eq_div_pow]; omega
  have hf : ((BitVec.ofNat 32 n <<< 23).extractLsb' 0 23).toNat = 0 := by
    simp [BitVec.extractLsb'_toNat, BitVec.toNat_shiftLeft, Nat.shiftLeft_eq]
  have hs : ((BitVec.ofNat 32 n <<< 23).extractLsb' (8 + 23) 1 == 1#1) = false := by
    have : ((BitVec.ofNat 32 n <<< 23).extractLsb' 31 1) = 0#1 := by
      apply BitVec.eq_of_toNat_eq
      simp [BitVec.extractLsb'_toNat, BitVec.toNat_shiftLeft, Nat.shiftLeft_eq, Nat.shiftRight_eq_div_pow]; omega
    show ((BitVec.ofNat 32 n <<< 23).extractLsb' 31 1 == 1#1) = false
    rw [this]; rfl
  exact ieee_pow _ n h0 h1 hx hf hs

theorem ofBits_zero_pow : Ideal.ofBits .f32 (BitVec.ofNat 32 0 <<< 23) = 0 := by simp

theorem ofBits_top_pow : Ideal.ofBits .f32 (BitVec.ofNat 32 255 <<< 23) = ⊤ := by
  simp [Ideal.ofBits, Ideal.ieee]

theorem shli_23 (b : BitVec 32) : IntOp.shli .vector b 23#32 = b <<< 23 := by
  rw [IntOp.shli, if_pos (by decide)]; rfl

/-- The words counted against a real number: none but the first below the least power, and one more for each power passed. -/
theorem card_powers (r : ℝ) (h0 : 0 ≤ r) (n : ℕ) (hn : n ≤ 253)
    (hlo : n = 0 ∨ (2 : ℝ) ^ ((n : ℤ) - 127) ≤ r) (hhi : r < (2 : ℝ) ^ ((n : ℤ) + 1 - 127)) :
    (Finset.univ.filter fun f : Fin 256 => Ideal.ofBits .f32 (BitVec.ofNat 32 f.val <<< 23) ≤ (r : EReal)).card = n + 1 := by
  have key : (Finset.univ.filter fun f : Fin 256 => Ideal.ofBits .f32 (BitVec.ofNat 32 f.val <<< 23) ≤ (r : EReal))
      = Finset.univ.filter fun f : Fin 256 => f.val < n + 1 := by
    apply Finset.filter_congr
    intro f _
    rcases Nat.eq_zero_or_pos f.val with hz | hp
    · rw [hz, ofBits_zero_pow]; simp [h0]
    · by_cases hl : f.val ≤ 254
      · rw [ofBits_pow _ hp hl, EReal.coe_le_coe_iff]
        constructor
        · intro h
          by_contra hc
          have : (n : ℤ) + 1 - 127 ≤ (f.val : ℤ) - 127 := by omega
          have := zpow_le_zpow_right₀ (by norm_num : (1 : ℝ) ≤ 2) this
          linarith
        · intro h
          rcases hlo with hlo | hlo
          · omega
          · have : (f.val : ℤ) - 127 ≤ (n : ℤ) - 127 := by omega
            have := zpow_le_zpow_right₀ (by norm_num : (1 : ℝ) ≤ 2) this
            linarith
      · have hf : f.val = 255 := by omega
        rw [hf, ofBits_top_pow]
        simp; omega
  rw [key]
  have := Fin.card_filter_val_lt (n := 256) (m := n + 1)
  rw [this]; omega

theorem count_eq (r : ℝ) (h0 : 0 ≤ r) (n : ℕ) (hn : n ≤ 253)
    (hlo : n = 0 ∨ (2 : ℝ) ^ ((n : ℤ) - 127) ≤ r) (hhi : r < (2 : ℝ) ^ ((n : ℤ) + 1 - 127)) :
    count (r : EReal) = BitVec.ofNat 32 (n + 1) := by
  unfold count
  rw [IndicatorCount.fold_addi_setWidth_eq_card (fun f : Fin 256 => BitVec.ofBool
    (decide (Ideal.ofBits .f32 (IntOp.shli .vector (BitVec.ofNat 32 f.val) 23#32) ≤ (r : EReal))))]
  rw [← card_powers r h0 n hn hlo hhi]
  congr 2
  apply Finset.filter_congr
  intro f _
  rw [shli_23]
  by_cases h : Ideal.ofBits .f32 (BitVec.ofNat 32 f.val <<< 23) ≤ (r : EReal) <;> simp [h]

/-- Every positive real number lies between two consecutive powers of two. -/
theorem exists_log (r : ℝ) (hr : 0 < r) : ∃ z : ℤ, (2 : ℝ) ^ z ≤ r ∧ r < (2 : ℝ) ^ (z + 1) := by
  have hl2 : 0 < Real.log 2 := Real.log_pos (by norm_num)
  refine ⟨⌊Real.log r / Real.log 2⌋, ?_, ?_⟩
  · rw [← Real.log_le_log_iff (by positivity) hr, Real.log_zpow, ← le_div_iff₀ hl2]
    exact Int.floor_le _
  · rw [← Real.log_lt_log_iff hr (by positivity), Real.log_zpow, ← div_lt_iff₀ hl2]
    push_cast
    exact Int.lt_floor_add_one _

/-- The exponent field `n` of a real number in range. -/
theorem exists_field (r : ℝ) (h0 : 0 ≤ r) (h1 : r < (2 : ℝ) ^ (126 : ℤ)) :
    ∃ n : ℕ, n ≤ 252 ∧ (n = 0 ∨ (2 : ℝ) ^ ((n : ℤ) - 127) ≤ r) ∧ r < (2 : ℝ) ^ ((n : ℤ) + 1 - 127) := by
  by_cases hs : r < (2 : ℝ) ^ (-126 : ℤ)
  · exact ⟨0, by omega, Or.inl rfl, by simpa using hs⟩
  · have hr : 0 < r := lt_of_lt_of_le (by positivity) (not_lt.1 hs)
    obtain ⟨z, a1, a2⟩ := exists_log r hr
    have b1 : -126 < z + 1 := by
      by_contra hc
      have := zpow_le_zpow_right₀ (by norm_num : (1 : ℝ) ≤ 2) (not_lt.1 hc)
      linarith [not_lt.1 hs]
    have b2 : z < 126 := by
      by_contra hc
      have := zpow_le_zpow_right₀ (by norm_num : (1 : ℝ) ≤ 2) (not_lt.1 hc)
      linarith
    refine ⟨(z + 127).toNat, by omega, Or.inr ?_, ?_⟩
    · rw [show (((z + 127).toNat : ℕ) : ℤ) - 127 = z by omega]; exact a1
    · rw [show (((z + 127).toNat : ℕ) : ℤ) + 1 - 127 = z + 1 by omega]; exact a2

theorem ofBits_tiny : Ideal.ofBits .f32 0x00800000#32 = (((2 : ℝ) ^ (-126 : ℤ) : ℝ) : EReal) :=
  ofBits_pow 1 (by omega) (by omega)
theorem ofBits_one' : Ideal.ofBits .f32 0x3F800000#32 = ((1 : ℝ) : EReal) := by
  have := ofBits_pow 127 (by omega) (by omega); simpa using this
theorem ofBits_two' : Ideal.ofBits .f32 0x40000000#32 = ((2 : ℝ) : EReal) := by
  have := ofBits_pow 128 (by omega) (by omega); simpa using this

/-- The exponent belonging to a field. -/
def expo (n : ℕ) : ℤ := if n = 0 then 0 else (n : ℤ) - 126

/-- THE TWO EXPONENTS ARE ONE. -/
theorem exps (r : ℝ) (h0 : 0 ≤ r) (h1 : r < (2 : ℝ) ^ (126 : ℤ)) :
    ∃ n : ℕ, n ≤ 252 ∧ rexp (r : EReal) = (((expo n : ℤ) : ℝ) : EReal)
      ∧ kexp (r : EReal) = (if n = 0 then 0#32 else BitVec.ofNat 32 n - 126#32) := by
  obtain ⟨n, hn, hlo, hhi⟩ := exists_field r h0 h1
  refine ⟨n, hn, ?_, ?_⟩
  · unfold rexp expo
    rw [ofBits_tiny, ofBits_one', ofBits_two']
    rcases Nat.eq_zero_or_pos n with hz | hp
    · subst hz
      have : r < (2 : ℝ) ^ (-126 : ℤ) := by simpa using hhi
      have hc : Ideal.cmp .olt (r : EReal) (((2 : ℝ) ^ (-126 : ℤ) : ℝ) : EReal) = 1#1 := by
        simp only [Ideal.cmp, EReal.coe_lt_coe_iff, this]; rfl
      rw [hc]
      simp [Scalar.select]
    · have hl : (2 : ℝ) ^ ((n : ℤ) - 127) ≤ r := by rcases hlo with h | h; omega; exact h
      have hge : ¬ r < (2 : ℝ) ^ (-126 : ℤ) := by
        have := zpow_le_zpow_right₀ (by norm_num : (1 : ℝ) ≤ 2) (show (-126 : ℤ) ≤ (n : ℤ) - 127 by omega)
        linarith
      have hr : 0 < r := lt_of_lt_of_le (by positivity) (not_lt.1 hge)
      have hc : Ideal.cmp .olt (r : EReal) (((2 : ℝ) ^ (-126 : ℤ) : ℝ) : EReal) = 0#1 := by
        simp only [Ideal.cmp, EReal.coe_lt_coe_iff, hge]; rfl
      rw [hc]
      have hsel : ∀ a b : EReal, Scalar.select (0#1) a b = b := fun a b => by simp [Scalar.select]
      rw [hsel]
      have hl2 : 0 < Real.log 2 := Real.log_pos (by norm_num)
      rw [Ideal.log_coe, Ideal.log_coe, if_neg (not_le.2 hr), if_neg (by norm_num), Ideal.div_coe hl2.ne',
        ← EReal.coe_mul, Ideal.liftRound_coe, ← EReal.coe_add]
      have hfl : ⌊Real.log r * (1 / Real.log 2)⌋ = (n : ℤ) - 127 := by
        rw [Int.floor_eq_iff, mul_one_div, le_div_iff₀ hl2, div_lt_iff₀ hl2]
        constructor
        · have := Real.log_le_log (by positivity) hl
          rw [Real.log_zpow] at this; push_cast at this ⊢; exact this
        · have := Real.log_lt_log hr hhi
          rw [Real.log_zpow] at this; push_cast at this ⊢
          rw [show (n : ℝ) - 127 + 1 = n + 1 - 127 by ring]; exact this
      rw [hfl, if_neg (by omega)]
      congr 1; push_cast; ring
  · unfold kexp
    rw [count_eq r h0 n (by omega) hlo hhi]
    have e1 : IntOp.subi (BitVec.ofNat 32 (n + 1)) 1#32 = BitVec.ofNat 32 n := by
      show BitVec.ofNat 32 (n + 1) - 1#32 = _
      apply BitVec.eq_of_toNat_eq; simp [BitVec.toNat_sub]; omega
    rw [e1]
    rcases Nat.eq_zero_or_pos n with hz | hp
    · subst hz; rfl
    · have hc : IntOp.cmpi .eq (BitVec.ofNat 32 n) 0#32 = 0#1 := by
        have : (BitVec.ofNat 32 n) ≠ 0#32 := by
          intro h; have := congrArg BitVec.toNat h; simp at this; omega
        simp only [IntOp.cmpi, beq_eq_false_iff_ne.2 this]; rfl
      rw [hc, if_neg (by omega)]; rfl

theorem exp2_coe_int (z : ℤ) : Ideal.exp2 (((z : ℤ) : ℝ) : EReal) = (((2 : ℝ) ^ z : ℝ) : EReal) := by
  rw [Ideal.exp2_coe]; congr 1; exact Real.rpow_intCast 2 z

/-- The scale built from a word is the power of two of the reference's exponent. -/
theorem scale_eq (r : ℝ) (h0 : 0 ≤ r) (h1 : r < (2 : ℝ) ^ (126 : ℤ)) :
    Ideal.ofBits .f32 (IntOp.shli .vector (IntOp.addi (127#32) (kexp (r : EReal))) 23#32) = Ideal.exp2 (rexp (r : EReal)) := by
  obtain ⟨n, hn, hr, hk⟩ := exps r h0 h1
  rw [hr, hk, exp2_coe_int, shli_23]
  have e : IntOp.addi (127#32) (if n = 0 then 0#32 else BitVec.ofNat 32 n - 126#32)
      = BitVec.ofNat 32 (if n = 0 then 127 else n + 1) := by
    split
    · rfl
    · show 127#32 + (BitVec.ofNat 32 n - 126#32) = _
      apply BitVec.eq_of_toNat_eq; simp [BitVec.toNat_sub]; omega
  rw [e, ofBits_pow _ (by split <;> omega) (by split <;> omega)]
  have he : ((if n = 0 then 127 else n + 1 : ℕ) : ℤ) - 127 = expo n := by unfold expo; split <;> push_cast <;> omega
  rw [he]

/-- … and so is the factor that scales the row. -/
theorem inv_eq (r : ℝ) (h0 : 0 ≤ r) (h1 : r < (2 : ℝ) ^ (126 : ℤ)) :
    Ideal.ofBits .f32 (IntOp.shli .vector (IntOp.subi (127#32) (kexp (r : EReal))) 23#32)
      = Ideal.exp2 (Ideal.ofBits .f32 0x00000000#32 - rexp (r : EReal)) := by
  obtain ⟨n, hn, hr, hk⟩ := exps r h0 h1
  rw [hr, hk, Ideal.ofBits_zero_f32, zero_sub, ← EReal.coe_neg, ← Int.cast_neg, exp2_coe_int, shli_23]
  have e : IntOp.subi (127#32) (if n = 0 then 0#32 else BitVec.ofNat 32 n - 126#32)
      = BitVec.ofNat 32 (if n = 0 then 127 else 253 - n) := by
    split
    · rfl
    · show 127#32 - (BitVec.ofNat 32 n - 126#32) = _
      apply BitVec.eq_of_toNat_eq; simp [BitVec.toNat_sub]; omega
  rw [e, ofBits_pow _ (by split <;> omega) (by split <;> omega)]
  have he : ((if n = 0 then 127 else 253 - n : ℕ) : ℤ) - 127 = -expo n := by unfold expo; split <;> push_cast <;> omega
  rw [he]

/-! ## A normalised row is bounded -/

/-- A row over its root mean square, times the weights. -/
def vrow (x w : Fin 2560 → EReal) (k : Fin 2560) : EReal :=
  x k * Ideal.rsqrt ((∑ j, x j * x j) * ((1 / 2560 : ℝ) : EReal) + eps) * w k

theorem eps_real : ∃ ε : ℝ, 0 < ε ∧ eps = (ε : EReal) := by
  refine ⟨(8796093 : ℝ) * (2 : ℝ) ^ (-43 : ℤ), by positivity, ?_⟩
  unfold eps
  simp [Ideal.ofBits, Ideal.ieee, -EReal.coe_mul]

theorem c448_real : ∃ c : ℝ, 0 < c ∧ c ≤ 1 / 400 ∧ c448 = (c : EReal) := by
  refine ⟨(9586981 : ℝ) * (2 : ℝ) ^ (-32 : ℤ), by positivity, by norm_num, ?_⟩
  unfold c448
  simp [Ideal.ofBits, Ideal.ieee, -EReal.coe_mul]

theorem coe_sum' {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem sq_nonneg' (x : EReal) : 0 ≤ x * x := by
  induction x using EReal.rec with
  | bot => simp
  | top => simp
  | coe r => rw [← EReal.coe_mul]; exact_mod_cast mul_self_nonneg r

theorem vrow_bound (x w : Fin 2560 → EReal) (k : Fin 2560) (W : ℝ) (hw : w k = (W : EReal)) (hW : |W| ≤ (2 : ℝ) ^ 128) :
    ∃ V : ℝ, vrow x w k = (V : EReal) ∧ |V| ≤ 51 * (2 : ℝ) ^ 128 := by
  obtain ⟨ε, hε, he⟩ := eps_real
  by_cases hall : ∀ j, ∃ r : ℝ, x j = (r : EReal)
  · choose X hX using hall
    have hS : ∑ j, x j * x j = ((∑ j, X j * X j : ℝ) : EReal) := by
      rw [coe_sum']; exact Finset.sum_congr rfl fun j _ => by rw [hX, EReal.coe_mul]
    have hSk : X k * X k ≤ ∑ j, X j * X j :=
      Finset.single_le_sum (f := fun j => X j * X j) (fun j _ => mul_self_nonneg _) (Finset.mem_univ k)
    set S := ∑ j, X j * X j with hSd
    have hS0 : 0 ≤ S := le_trans (mul_self_nonneg _) hSk
    have hq : 0 < S * (1 / 2560) + ε := by positivity
    have hr : Ideal.rsqrt ((∑ j, x j * x j) * ((1 / 2560 : ℝ) : EReal) + eps) = (((Real.sqrt (S * (1 / 2560) + ε))⁻¹ : ℝ) : EReal) := by
      rw [hS, he, ← EReal.coe_mul, ← EReal.coe_add, Ideal.rsqrt_coe, if_neg (not_lt.2 hq.le), if_neg hq.ne']
    refine ⟨X k * (Real.sqrt (S * (1 / 2560) + ε))⁻¹ * W, ?_, ?_⟩
    · unfold vrow; rw [hr, hX, hw, EReal.coe_mul, EReal.coe_mul]
    · have hsq : 0 < Real.sqrt (S * (1 / 2560) + ε) := Real.sqrt_pos.2 hq
      have h1 : |X k * (Real.sqrt (S * (1 / 2560) + ε))⁻¹| ≤ 51 := by
        rw [abs_mul, abs_inv, abs_of_pos hsq, ← div_eq_mul_inv, div_le_iff₀ hsq]
        apply abs_le_of_sq_le_sq _ (by positivity)
        rw [mul_pow, Real.sq_sqrt hq.le]
        nlinarith
      rw [abs_mul]
      exact mul_le_mul h1 hW (abs_nonneg _) (by norm_num)
  · push Not at hall
    obtain ⟨j, hj⟩ := hall
    have hjj : x j * x j = ⊤ := by
      rcases h : x j with _ | _ | r
      · exact EReal.bot_mul_bot
      · exact EReal.top_mul_top
      · exact absurd h (hj r)
    have hS : ∑ j, x j * x j = ⊤ := by
      rw [← Finset.add_sum_erase _ _ (Finset.mem_univ j), hjj]
      apply EReal.top_add_of_ne_bot
      have : (0 : EReal) ≤ ∑ i ∈ Finset.univ.erase j, x i * x i := Finset.sum_nonneg fun i _ => sq_nonneg' _
      exact (lt_of_lt_of_le EReal.bot_lt_zero this).ne'
    refine ⟨0, ?_, by simp⟩
    unfold vrow
    rw [hS, EReal.top_mul_coe_of_pos (by norm_num), he, EReal.top_add_coe, Ideal.rsqrt_top, mul_zero, zero_mul]; rfl

/-- A normalised row's entry in units of its scale, clipped to the codes' range. -/
def codeOf (x w : Fin 2560 → EReal) (k : Fin 2560) : EReal :=
  min (Ideal.ofBits .f32 0x43E00000#32) (max (Ideal.ofBits .f32 0xC3E00000#32)
    (vrow x w k * Ideal.exp2 (Ideal.ofBits .f32 0x00000000#32 - rexp (amax (vrow x w) * c448))))

/-- A normalised row's scale: a power of two. -/
def scaleOf (x w : Fin 2560 → EReal) : EReal := Ideal.exp2 (rexp (amax (vrow x w) * c448))

/-- The scaled largest magnitude of a bounded row is a real number in the exponent's range. -/
theorem amax_real (v : Fin 2560 → EReal) (h : ∀ k, ∃ V : ℝ, v k = (V : EReal) ∧ |V| ≤ 51 * (2 : ℝ) ^ 128) :
    ∃ r : ℝ, 0 ≤ r ∧ r < (2 : ℝ) ^ (126 : ℤ) ∧ amax v * c448 = (r : EReal) := by
  obtain ⟨c, hc0, hc1, hc⟩ := c448_real
  choose V hV hb using h
  have hbot : Ideal.ofBits .f32 0xFF800000#32 = ⊥ := by simp [Ideal.ofBits, Ideal.ieee]
  have habs : ∀ k, max (v k) (-(v k)) = ((|V k| : ℝ) : EReal) := fun k => by
    rw [hV, ← EReal.coe_neg]; exact (EReal.coe_strictMono.monotone.map_max).symm
  have lo : (0 : EReal) ≤ amax v := by
    unfold amax
    rw [Finset.le_fold_max]
    exact Or.inr ⟨0, Finset.mem_univ _, by rw [habs]; exact_mod_cast abs_nonneg _⟩
  have hi : amax v ≤ ((51 * (2 : ℝ) ^ 128 : ℝ) : EReal) := by
    unfold amax
    rw [Finset.fold_max_le]
    refine ⟨by rw [hbot]; exact bot_le, fun k _ => ?_⟩
    rw [habs, EReal.coe_le_coe_iff]; exact hb k
  obtain ⟨a, ha⟩ : ∃ a : ℝ, amax v = (a : EReal) :=
    ⟨(amax v).toReal, (EReal.coe_toReal (lt_of_le_of_lt hi (EReal.coe_lt_top _)).ne
      (lt_of_lt_of_le EReal.bot_lt_zero lo).ne').symm⟩
  rw [ha] at lo hi
  have lo' : 0 ≤ a := by exact_mod_cast lo
  have hi' : a ≤ 51 * (2 : ℝ) ^ 128 := by rw [EReal.coe_le_coe_iff] at hi; exact hi
  refine ⟨a * c, by positivity, ?_, by rw [ha, hc, EReal.coe_mul]⟩
  calc a * c ≤ (51 * (2 : ℝ) ^ 128) * (1 / 400) := mul_le_mul hi' hc1 hc0.le (by positivity)
    _ < (2 : ℝ) ^ (126 : ℤ) := by norm_num

end Cert.Quant
-- ==== Proof.Rows.lean ====
module

public import proofs.«01_k».proof.Proof.Gen.KernelIdeal.Skeleton
public import proofs.«01_k».proof.Proof.Quant
public import Idealize.ShloMosaic.Lib.Pointwise

@[expose] public section

set_option maxRecDepth 16384

noncomputable section

namespace Cert.KernelIdeal.Named

open Cert.KernelIdeal.Gen

open Idealize.ShloMosaic Idealize.ShloMosaic.TcCoe Idealize.ShloMosaic.Tactic

open Cert.Quant

/-! The quantising loop's payloads, a row at a time, on the exact numbers. -/

theorem inv_d_named : Named.named (F := Ideal) (φ := .f32) κ "inv_d" 0x39CCCCCD#32 = ((1 / 2560 : ℝ) : EReal) :=
  IdealRules.named_const.ideal_named_scalar _ _ _ _ rfl

theorem pay2_apply (x : Vec Ideal S32x2560 .bf16) (w : Vec Ideal S1x2560 .f32) (i : Fin 32) (k : Fin 2560) :
    k0_pay2 x w (ix2 i k) = vrow (fun j => x (ix2 i j)) (fun j => w (ix2 0 j)) k := by
  have e := inv_d_named
  unfold vrow
  rw [← e]
  pointwise [k0_pay2]
  rfl

theorem pay3_apply (x : Vec Ideal S32x2560 .bf16) (w : Vec Ideal S1x2560 .f32) (i : Fin 32) :
    k0_pay3 x w (ix2 i 0) = kexp (amax (vrow (fun j => x (ix2 i j)) (fun j => w (ix2 0 j))) * c448) := by
  have e : amax (vrow (fun j => x (ix2 i j)) (fun j => w (ix2 0 j))) = Finset.fold max (Ideal.ofBits .f32 0xFF800000#32)
      (fun k => FloatOps.absf (k0_pay2 x w (ix2 i k))) Finset.univ := by
    unfold amax
    congr 1
    funext k
    rw [pay2_apply]
    rfl
  rw [e]
  pointwise [k0_pay3]
  rfl

/-- A row of the codes the loop stores. -/
theorem code_apply (x : Vec Ideal S32x2560 .bf16) (w : Vec Ideal S1x2560 .f32)
    (hw : ∀ k, ∃ W : ℝ, w (ix2 0 k) = (W : EReal) ∧ |W| ≤ (2 : ℝ) ^ 128) (i : Fin 32) (k : Fin 2560) :
    k0_pay5 (k0_pay2 x w) (k0_pay3 x w) 127#32 (ix2 i k) = codeOf (fun j => x (ix2 i j)) (fun j => w (ix2 0 j)) k := by
  obtain ⟨r, h0, h1, hr⟩ := amax_real (vrow (fun j => x (ix2 i j)) (fun j => w (ix2 0 j))) (fun j => by
    obtain ⟨W, hW, hb⟩ := hw j
    exact vrow_bound _ _ _ W hW hb)
  unfold codeOf
  rw [hr, ← inv_eq r h0 h1, ← hr, ← pay3_apply, ← pay2_apply]
  generalize k0_pay3 x w = e
  generalize k0_pay2 x w = v
  pointwise [k0_pay5]

/-- A row of the scales the loop stores. -/
theorem scale_apply (x : Vec Ideal S32x2560 .bf16) (w : Vec Ideal S1x2560 .f32)
    (hw : ∀ k, ∃ W : ℝ, w (ix2 0 k) = (W : EReal) ∧ |W| ≤ (2 : ℝ) ^ 128) (i : Fin 32) :
    k0_pay4 (F := Ideal) (k0_pay3 x w) (ix2 i 0) = scaleOf (fun j => x (ix2 i j)) (fun j => w (ix2 0 j)) := by
  obtain ⟨r, h0, h1, hr⟩ := amax_real (vrow (fun j => x (ix2 i j)) (fun j => w (ix2 0 j))) (fun j => by
    obtain ⟨W, hW, hb⟩ := hw j
    exact vrow_bound _ _ _ W hW hb)
  unfold scaleOf
  rw [hr, ← scale_eq r h0 h1, ← hr, ← pay3_apply]
  generalize k0_pay3 x w = e
  pointwise [k0_pay4]

end Cert.KernelIdeal.Named
end
end
-- ==== Proof.Loop.lean ====
module

public import proofs.«01_k».proof.Proof.Lists
public import proofs.«01_k».proof.Proof.Rows

@[expose] public section

set_option maxRecDepth 16384

noncomputable section

namespace Cert.KernelIdeal.Named

open Cert.KernelIdeal.Gen

open Idealize.ShloMosaic Idealize.ShloMosaic.TcCoe Idealize.ShloMosaic.Tactic

set_option maxHeartbeats 1000000

open Cert.Quant

/-! The quantising loop: sixty bands of 32 rows leave every row's codes and scale. -/

theorem trips_eq : k0_t1_loop.trips = 60 := by decide
theorem off1_eq : ∀ k : Fin k0_t1_loop.trips, k0_off1 k 0 = 32 * k.val ∧ k0_off1 k 1 = 0 := by decide
theorem off2_eq : ∀ k : Fin k0_t1_loop.trips, k0_off2 k 0 = 32 * k.val ∧ k0_off2 k 1 = 0 := by decide

/-- The codes of all rows. -/
def codes (x0 : Vec Ideal S1920x2560 .bf16) (x1 : Vec Ideal S1x2560 .f32) : Vec Ideal S1920x2560 .fp8e4m3 := fun y =>
  codeOf (fun j => x0 (ix2 (⟨(y 0).val, (y 0).isLt⟩ : Fin 1920) j)) (fun j => x1 (ix2 0 j)) (⟨(y 1).val, (y 1).isLt⟩ : Fin 2560)

/-- The scales of all rows. -/
def scales (x0 : Vec Ideal S1920x2560 .bf16) (x1 : Vec Ideal S1x2560 .f32) : Vec Ideal S1920x1 .f32 := fun y =>
  scaleOf (fun j => x0 (ix2 (⟨(y 0).val, (y 0).isLt⟩ : Fin 1920) j)) (fun j => x1 (ix2 0 j))

theorem mem_codes (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec Ideal S1920x2560 .bf16) (x1 : Vec Ideal S1x2560 .f32) (n : ℕ) (hn : n ≤ 60) (p : View.Piece (Elt Ideal) S1920x2560 .fp8e4m3) :
    p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg2.unread x1) n).1 ↔
      ∃ k : Fin k0_t1_loop.trips, k.val < n ∧ p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg2.unread x1) k).1 := by
  induction n with
  | zero => rw [pb_k0_t1.eq_1]; simp
  | succ n ih =>
    have hk : n < k0_t1_loop.trips := by rw [trips_eq]; omega
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg2.unread x1) ⟨n, hk⟩]
    dsimp only
    rw [List.mem_append, ih (by omega)]
    constructor
    · rintro (h | ⟨k, hk', h⟩)
      · exact ⟨⟨n, hk⟩, Nat.lt_succ_self n, h⟩
      · exact ⟨k, by omega, h⟩
    · rintro ⟨k, hk', h⟩
      by_cases he : k.val = n
      · left
        have : k = ⟨n, hk⟩ := Fin.ext he
        rw [← this]; exact h
      · exact Or.inr ⟨k, by omega, h⟩

theorem mem_scales (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec Ideal S1920x2560 .bf16) (x1 : Vec Ideal S1x2560 .f32) (n : ℕ) (hn : n ≤ 60) (p : View.Piece (Elt Ideal) S1920x1 .f32) :
    p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg2.unread x1) n).2 ↔
      ∃ k : Fin k0_t1_loop.trips, k.val < n ∧ p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg2.unread x1) k).2 := by
  induction n with
  | zero => rw [pb_k0_t1.eq_1]; simp
  | succ n ih =>
    have hk : n < k0_t1_loop.trips := by rw [trips_eq]; omega
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg2.unread x1) ⟨n, hk⟩]
    dsimp only
    rw [List.mem_append, ih (by omega)]
    constructor
    · rintro (h | ⟨k, hk', h⟩)
      · exact ⟨⟨n, hk⟩, Nat.lt_succ_self n, h⟩
      · exact ⟨k, by omega, h⟩
    · rintro ⟨k, hk', h⟩
      by_cases he : k.val = n
      · left
        have : k = ⟨n, hk⟩ := Fin.ext he
        rw [← this]; exact h
      · exact Or.inr ⟨k, by omega, h⟩

/-- A band of rows, loaded. -/
theorem band_apply {sg : RefSig} (a : Memref sg .tc .vmem S1920x2560 .bf16) (ha : a.IsWhole) (x : Vec Ideal S1920x2560 .bf16)
    (k : Fin k0_t1_loop.trips) (inb : ∀ b, k0_off1 k b + S32x2560.size b ≤ S1920x2560.size b) (i : Fin 32) (j : Fin 2560) :
    View.readAt (Elt Ideal) a.view (Rect.unit (s := S1920x2560) (k0_off1 k) S32x2560.size inb).toLoadRect (ha.unread x) (ix2 i j)
      = x (ix2 (⟨32 * k.val + i.val, by have := lt_of_lt_of_eq k.isLt trips_eq; omega⟩ : Fin 1920) j) := by
  refine (ha.readAt_unread x (Rect.unit (s := S1920x2560) (k0_off1 k) S32x2560.size inb).toLoadRect (ix2 i j)).trans (congrArg x ?_)
  obtain ⟨h0, h1⟩ := off1_eq k
  funext b
  apply Fin.ext
  fin_cases b
  · show k0_off1 k 0 + 1 * i.val = 32 * k.val + i.val; omega
  · show k0_off1 k 1 + 1 * j.val = j.val; omega

/-- The norm's weights, loaded. -/
theorem weights_apply {sg : RefSig} (a : Memref sg .tc .vmem S1x2560 .f32) (ha : a.IsWhole) (x : Vec Ideal S1x2560 .f32) (j : Fin 2560) :
    View.readAt (Elt Ideal) a.view (Rect.unit (s := S1x2560) ![0, 0] S1x2560.size inb_S1x2560_S1x2560_0_0).toLoadRect (ha.unread x) (ix2 (0 : Fin 1) j)
      = x (ix2 (0 : Fin 1) j) := by
  refine (ha.readAt_unread x (Rect.unit (s := S1x2560) ![0, 0] S1x2560.size inb_S1x2560_S1x2560_0_0).toLoadRect (ix2 (0 : Fin 1) j)).trans (congrArg x ?_)
  funext b
  apply Fin.ext
  fin_cases b
  · rfl
  · show 0 + 1 * j.val = j.val; omega

theorem canon_codes (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec Ideal S1920x2560 .bf16) (x1 : Vec Ideal S1x2560 .f32) (hw : ∀ k, ∃ W : ℝ, x1 (ix2 0 k) = (W : EReal) ∧ |W| ≤ (2 : ℝ) ^ 128) :
    View.canon (quantPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1).1 = codes x0 x1 := by
  have ht := trips_eq
  funext y
  refine View.canon_apply_of_pieces (codes x0 x1) _ ?_ y ?_
  · intro p hp x
    obtain ⟨k, -, hp⟩ := (mem_codes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 _ ht.le p).mp hp
    rw [trip_pieces] at hp
    obtain rfl := List.mem_singleton.mp hp
    obtain ⟨s, n, rfl⟩ : ∃ (s : Fin 32) (n : Fin 2560), x = ix2 s n := ⟨x 0, x 1, by funext a; fin_cases a <;> rfl⟩
    have hk := k.isLt
    obtain ⟨h0, h1⟩ := off1_eq k
    have hy : (Rect.unit (s := S1920x2560) (k0_off1 k) S32x2560.size (k0_off1_inb i k hc0)).emb (ix2 s n)
        = (ix2 (⟨32 * k.val + s.val, by omega⟩ : Fin 1920) n : S1920x2560.Idx) := by
      funext a
      apply Fin.ext
      fin_cases a
      · show k0_off1 k 0 + 1 * s.val = 32 * k.val + s.val; omega
      · show k0_off1 k 1 + 1 * n.val = n.val; omega
    refine (code_apply _ _ (fun j => ?_) s n).trans ?_
    · rw [weights_apply]; exact hw j
    · show _ = codes x0 x1 ((Rect.unit (s := S1920x2560) (k0_off1 k) S32x2560.size (k0_off1_inb i k hc0)).emb (ix2 s n))
      rw [hy]
      exact congrArg₂ (fun a b => codeOf a b n) (funext fun j => band_apply arg1 harg1 x0 k _ s j) (funext fun j => weights_apply arg2 harg2 x1 j)
  · have hy0 : (y 0).val < 1920 := (y 0).isLt
    have hkk : (y 0).val / 32 < k0_t1_loop.trips := by rw [ht]; omega
    refine ⟨_, (mem_codes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 _ ht.le _).mpr ⟨⟨(y 0).val / 32, hkk⟩, hkk, by
      rw [trip_pieces]; exact List.mem_singleton.mpr rfl⟩, ?_⟩
    obtain ⟨h0, h1⟩ := off1_eq ⟨(y 0).val / 32, hkk⟩
    refine (Rect.mem_set_unit (inb := k0_off1_inb i ⟨(y 0).val / 32, hkk⟩ hc0)).mpr fun a => ?_
    have hy1 : (y 1).val < 2560 := (y 1).isLt
    fin_cases a
    · show k0_off1 ⟨(y 0).val / 32, hkk⟩ 0 ≤ (y 0).val ∧ (y 0).val < k0_off1 ⟨(y 0).val / 32, hkk⟩ 0 + 32
      simp only [h0]; omega
    · show k0_off1 ⟨(y 0).val / 32, hkk⟩ 1 ≤ (y 1).val ∧ (y 1).val < k0_off1 ⟨(y 0).val / 32, hkk⟩ 1 + 2560
      omega

theorem canon_scales (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec Ideal S1920x2560 .bf16) (x1 : Vec Ideal S1x2560 .f32) (hw : ∀ k, ∃ W : ℝ, x1 (ix2 0 k) = (W : EReal) ∧ |W| ≤ (2 : ℝ) ^ 128) :
    View.canon (quantPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1).2 = scales x0 x1 := by
  have ht := trips_eq
  funext y
  refine View.canon_apply_of_pieces (scales x0 x1) _ ?_ y ?_
  · intro p hp x
    obtain ⟨k, -, hp⟩ := (mem_scales c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 _ ht.le p).mp hp
    rw [trip_pieces] at hp
    obtain rfl := List.mem_singleton.mp hp
    obtain ⟨s, rfl⟩ : ∃ (s : Fin 32), x = ix2 s (0 : Fin 1) := ⟨x 0, by
      funext a
      fin_cases a
      · rfl
      · exact Subsingleton.elim (α := Fin 1) _ _⟩
    have hk := k.isLt
    obtain ⟨h0, h1⟩ := off2_eq k
    have hy : (Rect.unit (s := S1920x1) (k0_off2 k) S32x1.size (k0_off2_inb i k hc0)).emb (ix2 s (0 : Fin 1))
        = (ix2 (⟨32 * k.val + s.val, by omega⟩ : Fin 1920) (0 : Fin 1) : S1920x1.Idx) := by
      funext a
      apply Fin.ext
      fin_cases a
      · show k0_off2 k 0 + 1 * s.val = 32 * k.val + s.val; omega
      · show k0_off2 k 1 + 1 * 0 = 0; omega
    refine (scale_apply _ _ (fun j => ?_) s).trans ?_
    · rw [weights_apply]; exact hw j
    · show _ = scales x0 x1 ((Rect.unit (s := S1920x1) (k0_off2 k) S32x1.size (k0_off2_inb i k hc0)).emb (ix2 s (0 : Fin 1)))
      rw [hy]
      exact congrArg₂ (fun a b => scaleOf a b) (funext fun j => band_apply arg1 harg1 x0 k _ s j) (funext fun j => weights_apply arg2 harg2 x1 j)
  · have hy0 : (y 0).val < 1920 := (y 0).isLt
    have hkk : (y 0).val / 32 < k0_t1_loop.trips := by rw [ht]; omega
    refine ⟨_, (mem_scales c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 _ ht.le _).mpr ⟨⟨(y 0).val / 32, hkk⟩, hkk, by
      rw [trip_pieces]; exact List.mem_singleton.mpr rfl⟩, ?_⟩
    obtain ⟨h0, h1⟩ := off2_eq ⟨(y 0).val / 32, hkk⟩
    refine (Rect.mem_set_unit (inb := k0_off2_inb i ⟨(y 0).val / 32, hkk⟩ hc0)).mpr fun a => ?_
    have hy1 : (y 1).val < 1 := (y 1).isLt
    fin_cases a
    · show k0_off2 ⟨(y 0).val / 32, hkk⟩ 0 ≤ (y 0).val ∧ (y 0).val < k0_off2 ⟨(y 0).val / 32, hkk⟩ 0 + 32
      simp only [h0]; omega
    · show k0_off2 ⟨(y 0).val / 32, hkk⟩ 1 ≤ (y 1).val ∧ (y 1).val < k0_off2 ⟨(y 0).val / 32, hkk⟩ 1 + 1
      omega

end Cert.KernelIdeal.Named
end
end
-- ==== Proof.Tile.lean ====
module

public import proofs.«01_k».proof.Proof.Expand
public import Idealize.ShloMosaic.Lib.Pointwise
public import Idealize.ShloMosaic.Lib.BitcastPair

@[expose] public section

set_option maxRecDepth 16384

noncomputable section

namespace Cert.KernelIdeal.Named

open Cert.KernelIdeal.Gen

open Idealize.ShloMosaic Idealize.ShloMosaic.TcCoe Idealize.ShloMosaic.Tactic

/-! One tile of the product: the words are the codes of the dense rows, and the payload is the scaled sum of products. -/

theorem bitcast_expanded {F : FTy → Type} [FloatOps F] [Named F] (wv : Vec F S256x1280 .i8) (wi : Vec F S256x80 .i32) (n : Fin 256)
    (hne : ∀ (g : Fin 80) (j : ℕ), j < 8 → Words.pos (wi (ix2 n g)) (4 * j) ≠ Words.pos (wi (ix2 n g)) (4 * j + 2)) (k : Fin 2560) :
    bitcast S2560x256 8 (expanded wv wi) bitcasts_S640x256_w32_S2560x256_w8 (ix2 k n)
      = Words.rowCode (fun a => wv (ix2 n a)) (fun g => wi (ix2 n g)) k := by
  apply BitVec.eq_of_getLsbD_eq
  intro b hb
  rw [bitcast_getLsbD _ _ _ b hb (by decide)]
  have hrow : S2560x256.row (ix2 k n) = k.val := rfl
  have hsrc : ∀ hp, Shape.Bitcasts.srcIdx bitcasts_S640x256_w32_S2560x256_w8 (ix2 k n) ((S2560x256.row (ix2 k n) * 8 + b) / 32) hp
      = (ix2 (⟨k.val / 4, by omega⟩ : Fin 640) n : S640x256.Idx) := by
    intro hp
    funext a
    apply Fin.ext
    fin_cases a
    · refine (Shape.Bitcasts.srcIdx_row _ _ _ _ _ rfl).trans ?_
      rw [hrow]
      show (k.val * 8 + b) / 32 = k.val / 4
      omega
    · exact (Shape.Bitcasts.srcIdx_other _ _ _ _ _ (by decide)).trans rfl
  rw [hsrc, hrow, expanded_apply]
  have e : (k.val * 8 + b) % 32 = 8 * (k.val % 4) + b := by omega
  rw [e, Words.word_bit _ _ _ _ _ b (Nat.mod_lt _ (by decide)) hb (hne _ _ (Nat.mod_lt _ (by decide)))]
  have e2 : k.val / 4 / 8 = k.val / 32 := by omega
  unfold Words.rowCode
  simp only [e2]

theorem tile_apply (W : Vec Ideal S640x256 .i32) (xc : Vec Ideal S1920x2560 .fp8e4m3) (xs : Vec Ideal S1920x1 .f32)
    (ws : Vec Ideal S1x256 .f32) (i : Fin 1920) (n : Fin 256) :
    k0_pay262 W xc xs ws (ix2 i n) = (∑ k : Fin 2560, xc (ix2 i k) *
      Ideal.ofBits .fp8e4m3 (bitcast S2560x256 8 W bitcasts_S640x256_w32_S2560x256_w8 (ix2 k n))) * xs (ix2 i 0) * ws (ix2 0 n) := by
  unfold k0_pay262
  generalize bitcast S2560x256 8 W bitcasts_S640x256_w32_S2560x256_w8 = B
  pointwise

end Cert.KernelIdeal.Named
end
end
-- ==== Proof.Outs.lean ====
module

public import proofs.«01_k».proof.Proof.Loop
public import proofs.«01_k».proof.Proof.Tile

@[expose] public section

set_option maxRecDepth 16384

noncomputable section

namespace Cert.KernelIdeal.Named

open Cert.KernelIdeal.Gen

open Idealize.ShloMosaic Idealize.ShloMosaic.TcCoe Idealize.ShloMosaic.Tactic

set_option maxHeartbeats 1000000

/-! What each grid point leaves, from its input blocks and what the point before left. -/

/-- A load of a whole block reads the block. -/
theorem readAt_whole {sg : RefSig} {e : EltTy} {a b : ℕ} (r : Memref sg .tc .vmem ⟨2, ![a, b]⟩ e) (hr : r.IsWhole) (X : Vec Ideal ⟨2, ![a, b]⟩ e)
    (inb : ∀ d, (![0, 0] : Fin 2 → ℕ) d + (⟨2, ![a, b]⟩ : Shape).size d ≤ (⟨2, ![a, b]⟩ : Shape).size d) :
    View.readAt (Elt Ideal) r.view (Rect.unit (s := ⟨2, ![a, b]⟩) ![0, 0] (⟨2, ![a, b]⟩ : Shape).size inb).toLoadRect (hr.unread X) = X := by
  funext x
  refine (hr.readAt_unread X (Rect.unit (s := ⟨2, ![a, b]⟩) ![0, 0] (⟨2, ![a, b]⟩ : Shape).size inb).toLoadRect x).trans (congrArg X ?_)
  funext d
  apply Fin.ext
  fin_cases d
  · show 0 + 1 * (x 0).val = (x 0).val; omega
  · show 0 + 1 * (x 1).val = (x 1).val; omega

/-- A load of a whole block from stores reads what the stores leave. -/
theorem readCov_whole {sg : RefSig} {e : EltTy} {a b : ℕ} (v : View sg .tc .vmem ⟨2, ![a, b]⟩ e) (L : List (View.Piece (Elt Ideal) ⟨2, ![a, b]⟩ e))
    (inb : ∀ d, (![0, 0] : Fin 2 → ℕ) d + (⟨2, ![a, b]⟩ : Shape).size d ≤ (⟨2, ![a, b]⟩ : Shape).size d) :
    v.readCov L (Rect.unit (s := ⟨2, ![a, b]⟩) ![0, 0] (⟨2, ![a, b]⟩ : Shape).size inb).toLoadRect = View.canon L := by
  rw [View.readCov_eq_canon']
  funext x
  refine congrArg (View.canon L) ?_
  funext d
  apply Fin.ext
  fin_cases d
  · show 0 + 1 * (x 0).val = (x 0).val; omega
  · show 0 + 1 * (x 1).val = (x 1).val; omega

/-- The words of one tile after its stores. -/
theorem canon_tile' {sg : RefSig} (av : Memref sg .tc .vmem S256x1280 .i8) (hav : av.IsWhole) (ai : Memref sg .tc .vmem S256x80 .i32)
    (hai : ai.IsWhole) (a15 : Memref sg .tc .vmem S80x256 .i32) (wv : Vec Ideal S256x1280 .i8) (wi : Vec Ideal S256x80 .i32)
    (L : List (View.Piece (Elt Ideal) S80x256 .i32)) :
    View.canon (pieces (loads av hav wv) (idxLoads a15 (idxStore ai hai wi :: L))) = expanded wv wi := by
  have h := canon_tile av hav ai hai a15 wv wi L []
  rwa [List.append_nil] at h

/-- The words of one tile, loaded back. -/
theorem readCov_tile {sg : RefSig} (v : View sg .tc .vmem S640x256 .i32) (av : Memref sg .tc .vmem S256x1280 .i8) (hav : av.IsWhole) (ai : Memref sg .tc .vmem S256x80 .i32)
    (hai : ai.IsWhole) (a15 : Memref sg .tc .vmem S80x256 .i32) (wv : Vec Ideal S256x1280 .i8) (wi : Vec Ideal S256x80 .i32)
    (L : List (View.Piece (Elt Ideal) S80x256 .i32)) :
    v.readCov (pieces (loads av hav wv) (idxLoads a15 (idxStore ai hai wi :: L)))
      (Rect.unit (s := S640x256) ![0, 0] S640x256.size inb_S640x256_S640x256_0_0).toLoadRect = expanded wv wi :=
  (readCov_whole v _ _).trans (canon_tile' av hav ai hai a15 wv wi L)

/-- The scaled product with three tiles of words. -/
def product (W : Fin 3 → Vec Ideal S640x256 .i32) (xc : Vec Ideal S1920x2560 .fp8e4m3) (xs : Vec Ideal S1920x1 .f32)
    (ws : Vec Ideal S1x768 .f32) : Vec Ideal S1920x768 .bf16 := fun y =>
  ((∑ k : Fin 2560, xc (ix2 (⟨(y 0).val, (y 0).isLt⟩ : Fin 1920) k) *
    Ideal.ofBits .fp8e4m3 (bitcast S2560x256 8 (W ⟨(y 1).val / 256, by have : (y 1).val < 768 := (y 1).isLt; omega⟩)
      bitcasts_S640x256_w32_S2560x256_w8 (ix2 k (⟨(y 1).val % 256, Nat.mod_lt _ (by decide)⟩ : Fin 256))))
    * xs (ix2 (⟨(y 0).val, (y 0).isLt⟩ : Fin 1920) (0 : Fin 1)) * ws (ix2 (0 : Fin 1) (⟨(y 1).val, (y 1).isLt⟩ : Fin 768)) : EReal)

/-- One column block of it. -/
theorem piece_apply {sg : RefSig} (W : Fin 3 → Vec Ideal S640x256 .i32) (xc : Vec Ideal S1920x2560 .fp8e4m3) (xs : Vec Ideal S1920x1 .f32)
    (ws : Vec Ideal S1x768 .f32) (r : Memref sg .tc .vmem S1x768 .f32) (hr : r.IsWhole) (t : Fin 3) (o : ℕ) (ho : o = 256 * t.val)
    (inb : ∀ d, (![0, o] : Fin 2 → ℕ) d + S1920x256.size d ≤ S1920x768.size d) (inb' : ∀ d, (![0, o] : Fin 2 → ℕ) d + S1x256.size d ≤ S1x768.size d)
    (x : S1920x256.Idx) :
    k0_pay262 (W t) xc xs (View.readAt (Elt Ideal) r.view (Rect.unit (s := S1x768) ![0, o] S1x256.size inb').toLoadRect (hr.unread ws)) x
      = product W xc xs ws ((Rect.unit (s := S1920x768) ![0, o] S1920x256.size inb).emb x) := by
  obtain ⟨i, n, rfl⟩ : ∃ (i : Fin 1920) (n : Fin 256), x = ix2 i n := ⟨x 0, x 1, by funext a; fin_cases a <;> rfl⟩
  have ht := t.isLt
  have hn := n.isLt
  have hy : (Rect.unit (s := S1920x768) ![0, o] S1920x256.size inb).emb (ix2 i n) = (ix2 i (⟨256 * t.val + n.val, by omega⟩ : Fin 768) : S1920x768.Idx) := by
    funext a
    apply Fin.ext
    fin_cases a
    · show 0 + 1 * i.val = i.val; omega
    · show o + 1 * n.val = 256 * t.val + n.val; omega
  have hws : View.readAt (Elt Ideal) r.view (Rect.unit (s := S1x768) ![0, o] S1x256.size inb').toLoadRect (hr.unread ws) (ix2 (0 : Fin 1) n)
      = ws (ix2 (0 : Fin 1) (⟨256 * t.val + n.val, by omega⟩ : Fin 768)) := by
    refine (hr.readAt_unread ws (Rect.unit (s := S1x768) ![0, o] S1x256.size inb').toLoadRect (ix2 (0 : Fin 1) n)).trans (congrArg ws ?_)
    funext a
    apply Fin.ext
    fin_cases a
    · rfl
    · show o + 1 * n.val = 256 * t.val + n.val; omega
  rw [tile_apply, hws, hy]
  have e1 : (⟨(256 * t.val + n.val) / 256, by omega⟩ : Fin 3) = t := Fin.ext (by show (256 * t.val + n.val) / 256 = t.val; omega)
  have e2 : (⟨(256 * t.val + n.val) % 256, Nat.mod_lt _ (by decide)⟩ : Fin 256) = n := Fin.ext (by show (256 * t.val + n.val) % 256 = n.val; omega)
  show _ = ((∑ k : Fin 2560, xc (ix2 i k) * Ideal.ofBits .fp8e4m3 (bitcast S2560x256 8 (W ⟨(256 * t.val + n.val) / 256, _⟩)
      bitcasts_S640x256_w32_S2560x256_w8 (ix2 k (⟨(256 * t.val + n.val) % 256, _⟩ : Fin 256))))
    * xs (ix2 i (0 : Fin 1)) * ws (ix2 (0 : Fin 1) (⟨256 * t.val + n.val, _⟩ : Fin 768)) : EReal)
  rw [e1, e2]

/-- Its three column blocks, stored one by one. -/
theorem canon_three {sg : RefSig} (W0 W1 W2 : Vec Ideal S640x256 .i32) (xc : Vec Ideal S1920x2560 .fp8e4m3) (xs : Vec Ideal S1920x1 .f32)
    (x10 : Vec Ideal S1x768 .f32) (arg11 : Memref sg .tc .vmem S1x768 .f32) (harg11 : arg11.IsWhole) :
    View.canon [⟨Rect.unit (s := S1920x768) ![0, 512] S1920x256.size inb_S1920x768_S1920x256_0_512,
        k0_pay262 W2 xc xs (View.readAt (Elt Ideal) arg11.view (Rect.unit (s := S1x768) ![0, 512] S1x256.size inb_S1x768_S1x256_0_512).toLoadRect (harg11.unread x10))⟩,
      ⟨Rect.unit (s := S1920x768) ![0, 256] S1920x256.size inb_S1920x768_S1920x256_0_256,
        k0_pay262 W1 xc xs (View.readAt (Elt Ideal) arg11.view (Rect.unit (s := S1x768) ![0, 256] S1x256.size inb_S1x768_S1x256_0_256).toLoadRect (harg11.unread x10))⟩,
      (⟨Rect.unit (s := S1920x768) ![0, 0] S1920x256.size inb_S1920x768_S1920x256_0_0,
        k0_pay262 W0 xc xs (View.readAt (Elt Ideal) arg11.view (Rect.unit (s := S1x768) ![0, 0] S1x256.size inb_S1x768_S1x256_0_0).toLoadRect (harg11.unread x10))⟩ : View.Piece (Elt Ideal) S1920x768 .bf16)]
      = product ![W0, W1, W2] xc xs x10 := by
  funext y
  refine View.canon_apply_of_pieces (product ![W0, W1, W2] xc xs x10) _ ?_ y ?_
  · intro p hp x
    simp only [List.mem_cons, List.not_mem_nil, or_false] at hp
    rcases hp with rfl | rfl | rfl
    · exact piece_apply ![W0, W1, W2] xc xs x10 arg11 harg11 2 512 rfl inb_S1920x768_S1920x256_0_512 inb_S1x768_S1x256_0_512 x
    · exact piece_apply ![W0, W1, W2] xc xs x10 arg11 harg11 1 256 rfl inb_S1920x768_S1920x256_0_256 inb_S1x768_S1x256_0_256 x
    · exact piece_apply ![W0, W1, W2] xc xs x10 arg11 harg11 0 0 rfl inb_S1920x768_S1920x256_0_0 inb_S1x768_S1x256_0_0 x
  · have hy0 : (y 0).val < 1920 := (y 0).isLt
    have hy1 : (y 1).val < 768 := (y 1).isLt
    by_cases h2 : 512 ≤ (y 1).val
    · refine ⟨_, List.mem_cons_self .., (Rect.mem_set_unit (inb := inb_S1920x768_S1920x256_0_512)).mpr fun a => ?_⟩
      fin_cases a
      · show 0 ≤ (y 0).val ∧ (y 0).val < 0 + 1920; omega
      · show 512 ≤ (y 1).val ∧ (y 1).val < 512 + 256; omega
    · by_cases h1 : 256 ≤ (y 1).val
      · refine ⟨_, List.mem_cons_of_mem _ (List.mem_cons_self ..), (Rect.mem_set_unit (inb := inb_S1920x768_S1920x256_0_256)).mpr fun a => ?_⟩
        fin_cases a
        · show 0 ≤ (y 0).val ∧ (y 0).val < 0 + 1920; omega
        · show 256 ≤ (y 1).val ∧ (y 1).val < 256 + 256; omega
      · refine ⟨_, List.mem_cons_of_mem _ (List.mem_cons_of_mem _ (List.mem_cons_self ..)), (Rect.mem_set_unit (inb := inb_S1920x768_S1920x256_0_0)).mpr fun a => ?_⟩
        fin_cases a
        · show 0 ≤ (y 0).val ∧ (y 0).val < 0 + 1920; omega
        · show 0 ≤ (y 1).val ∧ (y 1).val < 0 + 256; omega

theorem out_A_xc (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec Ideal S1920x2560 .bf16) (x1 : Vec Ideal S1x2560 .f32) (x2 : Vec Ideal S256x1280 .i8) (x3 : Vec Ideal S256x80 .i32) (x4 : Vec Ideal S256x1280 .i8) (x5 : Vec Ideal S256x80 .i32) (x6 : Vec Ideal S256x1280 .i8) (x7 : Vec Ideal S256x80 .i32) (x8 : Vec Ideal S256x1280 .i8) (x9 : Vec Ideal S256x80 .i32) (x10 : Vec Ideal S1x768 .f32) (hw : ∀ k, ∃ W : ℝ, x1 (ix2 0 k) = (W : EReal) ∧ |W| ≤ (2 : ℝ) ^ 128) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 = codes x0 x1 := by
  unfold out0_A_12
  rw [View.read_writes_junk_eq_canon, pieces_A_xc]
  exact canon_codes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 hw

theorem out_A_xs (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec Ideal S1920x2560 .bf16) (x1 : Vec Ideal S1x2560 .f32) (x2 : Vec Ideal S256x1280 .i8) (x3 : Vec Ideal S256x80 .i32) (x4 : Vec Ideal S256x1280 .i8) (x5 : Vec Ideal S256x80 .i32) (x6 : Vec Ideal S256x1280 .i8) (x7 : Vec Ideal S256x80 .i32) (x8 : Vec Ideal S256x1280 .i8) (x9 : Vec Ideal S256x80 .i32) (x10 : Vec Ideal S1x768 .f32) (hw : ∀ k, ∃ W : ℝ, x1 (ix2 0 k) = (W : EReal) ∧ |W| ≤ (2 : ℝ) ^ 128) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 = scales x0 x1 := by
  unfold out0_A_13
  rw [View.read_writes_junk_eq_canon, pieces_A_xs]
  exact canon_scales c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 hw

theorem out_A_w0 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec Ideal S1920x2560 .bf16) (x1 : Vec Ideal S1x2560 .f32) (x2 : Vec Ideal S256x1280 .i8) (x3 : Vec Ideal S256x80 .i32) (x4 : Vec Ideal S256x1280 .i8) (x5 : Vec Ideal S256x80 .i32) (x6 : Vec Ideal S256x1280 .i8) (x7 : Vec Ideal S256x80 .i32) (x8 : Vec Ideal S256x1280 .i8) (x9 : Vec Ideal S256x80 .i32) (x10 : Vec Ideal S1x768 .f32) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 = expanded x8 x9 := by
  unfold sout0_A_1
  rw [View.read_writes_junk_eq_canon, pieces_A_w0]
  exact canon_tile _ _ _ _ _ _ _ _ _

theorem out_B_w0 (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i) (x0 : Vec Ideal S1920x2560 .bf16) (x1 : Vec Ideal S1x2560 .f32) (x2 : Vec Ideal S256x1280 .i8) (x3 : Vec Ideal S256x80 .i32) (x4 : Vec Ideal S256x1280 .i8) (x5 : Vec Ideal S256x80 .i32) (x6 : Vec Ideal S256x1280 .i8) (x7 : Vec Ideal S256x80 .i32) (x8 : Vec Ideal S256x1280 .i8) (x9 : Vec Ideal S256x80 .i32) (x10 : Vec Ideal S1x768 .f32) (xo12 : Vec Ideal S1920x2560 .fp8e4m3) (xo13 : Vec Ideal S1920x1 .f32) (xs1 : Vec Ideal S640x256 .i32) : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1 = expanded x8 x9 := by
  unfold sout0_B_1
  rw [View.read_writes_junk_eq_canon, pieces_B_w0]
  exact canon_tile' _ _ _ _ _ _ _ _

theorem out_A_y (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : cond0_0 i) (x0 : Vec Ideal S1920x2560 .bf16) (x1 : Vec Ideal S1x2560 .f32) (x2 : Vec Ideal S256x1280 .i8) (x3 : Vec Ideal S256x80 .i32) (x4 : Vec Ideal S256x1280 .i8) (x5 : Vec Ideal S256x80 .i32) (x6 : Vec Ideal S256x1280 .i8) (x7 : Vec Ideal S256x80 .i32) (x8 : Vec Ideal S256x1280 .i8) (x9 : Vec Ideal S256x80 .i32) (x10 : Vec Ideal S1x768 .f32) (hw : ∀ k, ∃ W : ℝ, x1 (ix2 0 k) = (W : EReal) ∧ |W| ≤ (2 : ℝ) ^ 128) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
    = product ![expanded x2 x3, expanded x4 x5, expanded x6 x7] (codes x0 x1) (scales x0 x1) x10 := by
  unfold out0_A_11
  rw [View.read_writes_junk_eq_canon, pieces_A_y]
  have e13 : arg13.view.readCov (quantPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1).1
      (Rect.unit (s := S1920x2560) ![0, 0] S1920x2560.size inb_S1920x2560_S1920x2560_0_0).toLoadRect = codes x0 x1 :=
    (readCov_whole _ _ _).trans (canon_codes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 hw)
  have e14 : arg14.view.readCov (quantPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1).2
      (Rect.unit (s := S1920x1) ![0, 0] S1920x1.size inb_S1920x1_S1920x1_0_0).toLoadRect = scales x0 x1 :=
    (readCov_whole _ _ _).trans (canon_scales c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 hw)
  rw [readCov_tile, readCov_tile, readCov_tile, e13, e14]
  exact canon_three _ _ _ _ _ x10 arg11 harg11

theorem out_B_y (c : Dev nD) (i : grid0.Coords) (arg1 : Memref sig .tc .vmem S1920x2560 .bf16) (harg1 : arg1.IsWhole) (arg2 : Memref sig .tc .vmem S1x2560 .f32) (harg2 : arg2.IsWhole) (arg3 : Memref sig .tc .vmem S256x1280 .i8) (harg3 : arg3.IsWhole) (arg4 : Memref sig .tc .vmem S256x80 .i32) (harg4 : arg4.IsWhole) (arg5 : Memref sig .tc .vmem S256x1280 .i8) (harg5 : arg5.IsWhole) (arg6 : Memref sig .tc .vmem S256x80 .i32) (harg6 : arg6.IsWhole) (arg7 : Memref sig .tc .vmem S256x1280 .i8) (harg7 : arg7.IsWhole) (arg8 : Memref sig .tc .vmem S256x80 .i32) (harg8 : arg8.IsWhole) (arg9 : Memref sig .tc .vmem S256x1280 .i8) (harg9 : arg9.IsWhole) (arg10 : Memref sig .tc .vmem S256x80 .i32) (harg10 : arg10.IsWhole) (arg11 : Memref sig .tc .vmem S1x768 .f32) (harg11 : arg11.IsWhole) (arg12 : Memref sig .tc .vmem S1920x768 .bf16) (harg12 : arg12.IsWhole) (arg13 : Memref sig .tc .vmem S1920x2560 .fp8e4m3) (harg13 : arg13.IsWhole) (arg14 : Memref sig .tc .vmem S1920x1 .f32) (harg14 : arg14.IsWhole) (arg15 : Memref sig .tc .vmem S80x256 .i32) (harg15 : arg15.IsWhole) (arg16 : Memref sig .tc .vmem S640x256 .i32) (harg16 : arg16.IsWhole) (arg17 : Memref sig .tc .vmem S640x256 .i32) (harg17 : arg17.IsWhole) (arg18 : Memref sig .tc .vmem S640x256 .i32) (harg18 : arg18.IsWhole) (hc0 : ¬cond0_0 i) (x0 : Vec Ideal S1920x2560 .bf16) (x1 : Vec Ideal S1x2560 .f32) (x2 : Vec Ideal S256x1280 .i8) (x3 : Vec Ideal S256x80 .i32) (x4 : Vec Ideal S256x1280 .i8) (x5 : Vec Ideal S256x80 .i32) (x6 : Vec Ideal S256x1280 .i8) (x7 : Vec Ideal S256x80 .i32) (x8 : Vec Ideal S256x1280 .i8) (x9 : Vec Ideal S256x80 .i32) (x10 : Vec Ideal S1x768 .f32) (xo12 : Vec Ideal S1920x2560 .fp8e4m3) (xo13 : Vec Ideal S1920x1 .f32) (xs1 : Vec Ideal S640x256 .i32) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo12 xo13 xs1
    = product ![xs1, expanded x4 x5, expanded x6 x7] xo12 xo13 x10 := by
  unfold out0_B_11
  rw [View.read_writes_junk_eq_canon, pieces_B_y]
  rw [readCov_tile, readCov_tile]
  have e16 : View.readAt (Elt Ideal) arg16.view (Rect.unit (s := S640x256) ![0, 0] S640x256.size inb_S640x256_S640x256_0_0).toLoadRect (harg16.unread xs1) = xs1 :=
    readAt_whole arg16 harg16 xs1 _
  have e13 : View.readAt (Elt Ideal) arg13.view (Rect.unit (s := S1920x2560) ![0, 0] S1920x2560.size inb_S1920x2560_S1920x2560_0_0).toLoadRect (harg13.unread xo12) = xo12 :=
    readAt_whole arg13 harg13 xo12 _
  have e14 : View.readAt (Elt Ideal) arg14.view (Rect.unit (s := S1920x1) ![0, 0] S1920x1.size inb_S1920x1_S1920x1_0_0).toLoadRect (harg14.unread xo13) = xo13 :=
    readAt_whole arg14 harg14 xo13 _
  rw [e16, e13, e14]
  exact canon_three _ _ _ _ _ x10 arg11 harg11

end Cert.KernelIdeal.Named
end
end
-- ==== Proof.Points.lean ====
module

public import proofs.«01_k».proof.Proof.Outs
public import Idealize.ShloMosaic.Lib.Claim

@[expose] public section

set_option maxRecDepth 16384

noncomputable section

namespace Cert.KernelIdeal.Named

open Cert.KernelIdeal.Gen

open Idealize.ShloMosaic Idealize.ShloMosaic.TcCoe Idealize.ShloMosaic.Tactic

open Idealize.SL.Sem
open Idealize.ShloMosaic.Pipeline (Dat)

set_option maxHeartbeats 1000000

variable (m : (ℓ : Loc nD τ sig) → Buf (Elt Ideal) ℓ) (ρ : Dev nD → PrngReg)

/-! The blocks the grid points read, and what each point leaves. -/

/-- The rows of the input as the region finds them. -/
def xAll (c : Dev nD) : Vec Ideal S1920x2560 .bf16 := V m c main_v0
/-- The norm's weights as the region finds them. -/
def nAll (c : Dev nD) : Vec Ideal S1x2560 .f32 := V m c main_v1
/-- The output scales as the region finds them. -/
def sAll (c : Dev nD) : Vec Ideal S1x6912 .f32 := V m c main_v2
/-- The kept values. -/
def wvAll (c : Dev nD) : Vec Ideal S6912x1280 .i8 := V m c main_arg2
/-- The position words. -/
def wiAll (c : Dev nD) : Vec Ideal S6912x80 .i32 := V m c main_arg3

/-- Tile `q` of the kept values: 256 rows. -/
def wvTile (c : Dev nD) (q : ℕ) (hq : q < 27) : Vec Ideal S256x1280 .i8 := fun y =>
  wvAll m c (ix2 (⟨256 * q + (y 0).val, by have : (y 0).val < 256 := (y 0).isLt; omega⟩ : Fin 6912) (⟨(y 1).val, (y 1).isLt⟩ : Fin 1280))
/-- Tile `q` of the position words: 256 rows. -/
def wiTile (c : Dev nD) (q : ℕ) (hq : q < 27) : Vec Ideal S256x80 .i32 := fun y =>
  wiAll m c (ix2 (⟨256 * q + (y 0).val, by have : (y 0).val < 256 := (y 0).isLt; omega⟩ : Fin 6912) (⟨(y 1).val, (y 1).isLt⟩ : Fin 80))
/-- Block `t` of the output scales: 768 columns. -/
def sBlk (c : Dev nD) (t : ℕ) (ht : t < 9) : Vec Ideal S1x768 .f32 := fun y =>
  sAll m c (ix2 (0 : Fin 1) (⟨768 * t + (y 1).val, by have : (y 1).val < 768 := (y 1).isLt; omega⟩ : Fin 6912))

theorem lt9 (t : Fin cfg0.N) : t.val < 9 := lt_of_lt_of_eq t.isLt (show cfg0.N = 9 from N_0)

theorem index_0 : ∀ t : Fin cfg0.N, win0_0.index t (0 : Fin 2) = 0 ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 2) = 3 * t.val + 1 ∧ win0_4.index t (1 : Fin 2) = 0 :=
  (by decide +kernel : ∀ t : Fin grid0.N, _)
theorem index_5 : ∀ t : Fin cfg0.N, win0_5.index t (0 : Fin 2) = 3 * t.val + 1 ∧ win0_5.index t (1 : Fin 2) = 0 :=
  (by decide +kernel : ∀ t : Fin grid0.N, _)
theorem index_6 : ∀ t : Fin cfg0.N, win0_6.index t (0 : Fin 2) = 3 * t.val + 2 ∧ win0_6.index t (1 : Fin 2) = 0 :=
  (by decide +kernel : ∀ t : Fin grid0.N, _)
theorem index_7 : ∀ t : Fin cfg0.N, win0_7.index t (0 : Fin 2) = 3 * t.val + 2 ∧ win0_7.index t (1 : Fin 2) = 0 :=
  (by decide +kernel : ∀ t : Fin grid0.N, _)
theorem index_8 : ∀ t : Fin cfg0.N, win0_8.index t (0 : Fin 2) = min (3 * t.val + 3) 26 ∧ win0_8.index t (1 : Fin 2) = 0 :=
  (by decide +kernel : ∀ t : Fin grid0.N, _)
theorem index_9 : ∀ t : Fin cfg0.N, win0_9.index t (0 : Fin 2) = min (3 * t.val + 3) 26 ∧ win0_9.index t (1 : Fin 2) = 0 :=
  (by decide +kernel : ∀ t : Fin grid0.N, _)
theorem index_10 : ∀ t : Fin cfg0.N, win0_10.index t (0 : Fin 2) = 0 ∧ win0_10.index t (1 : Fin 2) = t.val :=
  (by decide +kernel : ∀ t : Fin grid0.N, _)

theorem blk_0 (c : Dev nD) (t : Fin cfg0.N) : iblk m c 0 t = xAll m c := by
  obtain ⟨e0, e1⟩ := index_0 t
  funext y
  have hb0 : (((cfg0.win 0).blk t).view.emb y (0 : Fin 2)).val = win0_0.index t (0 : Fin 2) * 1920 + 1 * (y (0 : Fin 2)).val := rfl
  have hb1 : (((cfg0.win 0).blk t).view.emb y (1 : Fin 2)).val = win0_0.index t (1 : Fin 2) * 2560 + 1 * (y (1 : Fin 2)).val := rfl
  have hy0 : (y (0 : Fin 2)).val < 1920 := (y (0 : Fin 2)).isLt
  have hy1 : (y (1 : Fin 2)).val < 2560 := (y (1 : Fin 2)).isLt
  refine congrArg (V m c (Pipeline.arrRef spec0 0)) ?_
  funext d
  apply Fin.ext
  match d with
  | ⟨0, _⟩ => exact hb0.trans (show _ = (y (0 : Fin 2)).val by rw [e0]; omega)
  | ⟨1, _⟩ => exact hb1.trans (show _ = (y (1 : Fin 2)).val by rw [e1]; omega)

theorem blk_1 (c : Dev nD) (t : Fin cfg0.N) : iblk m c 1 t = nAll m c := by
  obtain ⟨e0, e1⟩ := index_1 t
  funext y
  have hb0 : (((cfg0.win 1).blk t).view.emb y (0 : Fin 2)).val = win0_1.index t (0 : Fin 2) * 1 + 1 * (y (0 : Fin 2)).val := rfl
  have hb1 : (((cfg0.win 1).blk t).view.emb y (1 : Fin 2)).val = win0_1.index t (1 : Fin 2) * 2560 + 1 * (y (1 : Fin 2)).val := rfl
  have hy0 : (y (0 : Fin 2)).val < 1 := (y (0 : Fin 2)).isLt
  have hy1 : (y (1 : Fin 2)).val < 2560 := (y (1 : Fin 2)).isLt
  refine congrArg (V m c (Pipeline.arrRef spec0 1)) ?_
  funext d
  apply Fin.ext
  match d with
  | ⟨0, _⟩ => exact hb0.trans (show _ = (y (0 : Fin 2)).val by rw [e0]; omega)
  | ⟨1, _⟩ => exact hb1.trans (show _ = (y (1 : Fin 2)).val by rw [e1]; omega)

theorem blk_2 (c : Dev nD) (t : Fin cfg0.N) : iblk m c 2 t = wvTile m c (0) (by have := lt9 t; omega) := by
  obtain ⟨e0, e1⟩ := index_2 t
  funext y
  have hb0 : (((cfg0.win 2).blk t).view.emb y (0 : Fin 2)).val = win0_2.index t (0 : Fin 2) * 256 + 1 * (y (0 : Fin 2)).val := rfl
  have hb1 : (((cfg0.win 2).blk t).view.emb y (1 : Fin 2)).val = win0_2.index t (1 : Fin 2) * 1280 + 1 * (y (1 : Fin 2)).val := rfl
  have hy0 : (y (0 : Fin 2)).val < 256 := (y (0 : Fin 2)).isLt
  have hy1 : (y (1 : Fin 2)).val < 1280 := (y (1 : Fin 2)).isLt
  refine congrArg (V m c (Pipeline.arrRef spec0 2)) ?_
  funext d
  apply Fin.ext
  match d with
  | ⟨0, _⟩ => exact hb0.trans (show _ = 256 * (0) + (y (0 : Fin 2)).val by rw [e0]; omega)
  | ⟨1, _⟩ => exact hb1.trans (show _ = (y (1 : Fin 2)).val by rw [e1]; omega)

theorem blk_3 (c : Dev nD) (t : Fin cfg0.N) : iblk m c 3 t = wiTile m c (0) (by have := lt9 t; omega) := by
  obtain ⟨e0, e1⟩ := index_3 t
  funext y
  have hb0 : (((cfg0.win 3).blk t).view.emb y (0 : Fin 2)).val = win0_3.index t (0 : Fin 2) * 256 + 1 * (y (0 : Fin 2)).val := rfl
  have hb1 : (((cfg0.win 3).blk t).view.emb y (1 : Fin 2)).val = win0_3.index t (1 : Fin 2) * 80 + 1 * (y (1 : Fin 2)).val := rfl
  have hy0 : (y (0 : Fin 2)).val < 256 := (y (0 : Fin 2)).isLt
  have hy1 : (y (1 : Fin 2)).val < 80 := (y (1 : Fin 2)).isLt
  refine congrArg (V m c (Pipeline.arrRef spec0 3)) ?_
  funext d
  apply Fin.ext
  match d with
  | ⟨0, _⟩ => exact hb0.trans (show _ = 256 * (0) + (y (0 : Fin 2)).val by rw [e0]; omega)
  | ⟨1, _⟩ => exact hb1.trans (show _ = (y (1 : Fin 2)).val by rw [e1]; omega)

theorem blk_4 (c : Dev nD) (t : Fin cfg0.N) : iblk m c 4 t = wvTile m c (3 * t.val + 1) (by have := lt9 t; omega) := by
  obtain ⟨e0, e1⟩ := index_4 t
  funext y
  have hb0 : (((cfg0.win 4).blk t).view.emb y (0 : Fin 2)).val = win0_4.index t (0 : Fin 2) * 256 + 1 * (y (0 : Fin 2)).val := rfl
  have hb1 : (((cfg0.win 4).blk t).view.emb y (1 : Fin 2)).val = win0_4.index t (1 : Fin 2) * 1280 + 1 * (y (1 : Fin 2)).val := rfl
  have hy0 : (y (0 : Fin 2)).val < 256 := (y (0 : Fin 2)).isLt
  have hy1 : (y (1 : Fin 2)).val < 1280 := (y (1 : Fin 2)).isLt
  refine congrArg (V m c (Pipeline.arrRef spec0 4)) ?_
  funext d
  apply Fin.ext
  match d with
  | ⟨0, _⟩ => exact hb0.trans (show _ = 256 * (3 * t.val + 1) + (y (0 : Fin 2)).val by rw [e0]; omega)
  | ⟨1, _⟩ => exact hb1.trans (show _ = (y (1 : Fin 2)).val by rw [e1]; omega)

theorem blk_5 (c : Dev nD) (t : Fin cfg0.N) : iblk m c 5 t = wiTile m c (3 * t.val + 1) (by have := lt9 t; omega) := by
  obtain ⟨e0, e1⟩ := index_5 t
  funext y
  have hb0 : (((cfg0.win 5).blk t).view.emb y (0 : Fin 2)).val = win0_5.index t (0 : Fin 2) * 256 + 1 * (y (0 : Fin 2)).val := rfl
  have hb1 : (((cfg0.win 5).blk t).view.emb y (1 : Fin 2)).val = win0_5.index t (1 : Fin 2) * 80 + 1 * (y (1 : Fin 2)).val := rfl
  have hy0 : (y (0 : Fin 2)).val < 256 := (y (0 : Fin 2)).isLt
  have hy1 : (y (1 : Fin 2)).val < 80 := (y (1 : Fin 2)).isLt
  refine congrArg (V m c (Pipeline.arrRef spec0 5)) ?_
  funext d
  apply Fin.ext
  match d with
  | ⟨0, _⟩ => exact hb0.trans (show _ = 256 * (3 * t.val + 1) + (y (0 : Fin 2)).val by rw [e0]; omega)
  | ⟨1, _⟩ => exact hb1.trans (show _ = (y (1 : Fin 2)).val by rw [e1]; omega)

theorem blk_6 (c : Dev nD) (t : Fin cfg0.N) : iblk m c 6 t = wvTile m c (3 * t.val + 2) (by have := lt9 t; omega) := by
  obtain ⟨e0, e1⟩ := index_6 t
  funext y
  have hb0 : (((cfg0.win 6).blk t).view.emb y (0 : Fin 2)).val = win0_6.index t (0 : Fin 2) * 256 + 1 * (y (0 : Fin 2)).val := rfl
  have hb1 : (((cfg0.win 6).blk t).view.emb y (1 : Fin 2)).val = win0_6.index t (1 : Fin 2) * 1280 + 1 * (y (1 : Fin 2)).val := rfl
  have hy0 : (y (0 : Fin 2)).val < 256 := (y (0 : Fin 2)).isLt
  have hy1 : (y (1 : Fin 2)).val < 1280 := (y (1 : Fin 2)).isLt
  refine congrArg (V m c (Pipeline.arrRef spec0 6)) ?_
  funext d
  apply Fin.ext
  match d with
  | ⟨0, _⟩ => exact hb0.trans (show _ = 256 * (3 * t.val + 2) + (y (0 : Fin 2)).val by rw [e0]; omega)
  | ⟨1, _⟩ => exact hb1.trans (show _ = (y (1 : Fin 2)).val by rw [e1]; omega)

theorem blk_7 (c : Dev nD) (t : Fin cfg0.N) : iblk m c 7 t = wiTile m c (3 * t.val + 2) (by have := lt9 t; omega) := by
  obtain ⟨e0, e1⟩ := index_7 t
  funext y
  have hb0 : (((cfg0.win 7).blk t).view.emb y (0 : Fin 2)).val = win0_7.index t (0 : Fin 2) * 256 + 1 * (y (0 : Fin 2)).val := rfl
  have hb1 : (((cfg0.win 7).blk t).view.emb y (1 : Fin 2)).val = win0_7.index t (1 : Fin 2) * 80 + 1 * (y (1 : Fin 2)).val := rfl
  have hy0 : (y (0 : Fin 2)).val < 256 := (y (0 : Fin 2)).isLt
  have hy1 : (y (1 : Fin 2)).val < 80 := (y (1 : Fin 2)).isLt
  refine congrArg (V m c (Pipeline.arrRef spec0 7)) ?_
  funext d
  apply Fin.ext
  match d with
  | ⟨0, _⟩ => exact hb0.trans (show _ = 256 * (3 * t.val + 2) + (y (0 : Fin 2)).val by rw [e0]; omega)
  | ⟨1, _⟩ => exact hb1.trans (show _ = (y (1 : Fin 2)).val by rw [e1]; omega)

theorem blk_8 (c : Dev nD) (t : Fin cfg0.N) : iblk m c 8 t = wvTile m c (min (3 * t.val + 3) 26) (by have := lt9 t; omega) := by
  obtain ⟨e0, e1⟩ := index_8 t
  funext y
  have hb0 : (((cfg0.win 8).blk t).view.emb y (0 : Fin 2)).val = win0_8.index t (0 : Fin 2) * 256 + 1 * (y (0 : Fin 2)).val := rfl
  have hb1 : (((cfg0.win 8).blk t).view.emb y (1 : Fin 2)).val = win0_8.index t (1 : Fin 2) * 1280 + 1 * (y (1 : Fin 2)).val := rfl
  have hy0 : (y (0 : Fin 2)).val < 256 := (y (0 : Fin 2)).isLt
  have hy1 : (y (1 : Fin 2)).val < 1280 := (y (1 : Fin 2)).isLt
  refine congrArg (V m c (Pipeline.arrRef spec0 8)) ?_
  funext d
  apply Fin.ext
  match d with
  | ⟨0, _⟩ => exact hb0.trans (show _ = 256 * (min (3 * t.val + 3) 26) + (y (0 : Fin 2)).val by rw [e0]; omega)
  | ⟨1, _⟩ => exact hb1.trans (show _ = (y (1 : Fin 2)).val by rw [e1]; omega)

theorem blk_9 (c : Dev nD) (t : Fin cfg0.N) : iblk m c 9 t = wiTile m c (min (3 * t.val + 3) 26) (by have := lt9 t; omega) := by
  obtain ⟨e0, e1⟩ := index_9 t
  funext y
  have hb0 : (((cfg0.win 9).blk t).view.emb y (0 : Fin 2)).val = win0_9.index t (0 : Fin 2) * 256 + 1 * (y (0 : Fin 2)).val := rfl
  have hb1 : (((cfg0.win 9).blk t).view.emb y (1 : Fin 2)).val = win0_9.index t (1 : Fin 2) * 80 + 1 * (y (1 : Fin 2)).val := rfl
  have hy0 : (y (0 : Fin 2)).val < 256 := (y (0 : Fin 2)).isLt
  have hy1 : (y (1 : Fin 2)).val < 80 := (y (1 : Fin 2)).isLt
  refine congrArg (V m c (Pipeline.arrRef spec0 9)) ?_
  funext d
  apply Fin.ext
  match d with
  | ⟨0, _⟩ => exact hb0.trans (show _ = 256 * (min (3 * t.val + 3) 26) + (y (0 : Fin 2)).val by rw [e0]; omega)
  | ⟨1, _⟩ => exact hb1.trans (show _ = (y (1 : Fin 2)).val by rw [e1]; omega)

theorem blk_10 (c : Dev nD) (t : Fin cfg0.N) : iblk m c 10 t = sBlk m c t.val (lt9 t) := by
  obtain ⟨e0, e1⟩ := index_10 t
  funext y
  have hb0 : (((cfg0.win 10).blk t).view.emb y (0 : Fin 2)).val = win0_10.index t (0 : Fin 2) * 1 + 1 * (y (0 : Fin 2)).val := rfl
  have hb1 : (((cfg0.win 10).blk t).view.emb y (1 : Fin 2)).val = win0_10.index t (1 : Fin 2) * 768 + 1 * (y (1 : Fin 2)).val := rfl
  have hy0 : (y (0 : Fin 2)).val < 1 := (y (0 : Fin 2)).isLt
  have hy1 : (y (1 : Fin 2)).val < 768 := (y (1 : Fin 2)).isLt
  refine congrArg (V m c (Pipeline.arrRef spec0 10)) ?_
  funext d
  apply Fin.ext
  match d with
  | ⟨0, _⟩ => exact hb0.trans (show _ = 0 by rw [e0]; omega)
  | ⟨1, _⟩ => exact hb1.trans (show _ = 768 * t.val + (y (1 : Fin 2)).val by rw [e1]; omega)

/-- The words of tile `q`. -/
def tile (c : Dev nD) (q : ℕ) (hq : q < 27) : Vec Ideal S640x256 .i32 := expanded (wvTile m c q hq) (wiTile m c q hq)

theorem tile_congr (c : Dev nD) {q q' : ℕ} (hq : q < 27) (hq' : q' < 27) (h : q = q') : tile m c q hq = tile m c q' hq' := by
  subst h; rfl

theorem quad {α β γ δ : Type} {a a' : α} {b b' : β} {d d' : γ} {e e' : δ} (h1 : a = a') (h2 : b = b') (h3 : d = d') (h4 : e = e') :
    (a, b, d, e) = (a', b', d', e') := by subst h1; subst h2; subst h3; subst h4; rfl

/-- What the first point leaves. -/
theorem outs_first (c : Dev nD) (hw : ∀ k, ∃ W : ℝ, nAll m c (ix2 0 k) = (W : EReal) ∧ |W| ≤ (2 : ℝ) ^ 128)
    (t : Fin cfg0.N) (h0 : t.val % 9 = 0) (h1 : ¬1 ≤ t.val) (q : ℕ) (hq : q < 27) (e : q = 0) :
    outsAt0 m c t.val t.isLt =
      (product ![tile m c q hq, tile m c (3 * t.val + 1) (by have := lt9 t; omega), tile m c (3 * t.val + 2) (by have := lt9 t; omega)]
        (codes (xAll m c) (nAll m c)) (scales (xAll m c) (nAll m c)) (sBlk m c t.val (lt9 t)),
       codes (xAll m c) (nAll m c), scales (xAll m c) (nAll m c), tile m c (min (3 * t.val + 3) 26) (by omega)) := by
  subst e
  have hw0 : ∀ k, ∃ W : ℝ, iblk m c 1 t (ix2 0 k) = (W : EReal) ∧ |W| ≤ (2 : ℝ) ^ 128 := by
    rw [blk_1]; exact hw
  refine (outsAt0_A m c t h0 h1).trans (quad ?_ ?_ ?_ ?_)
  · refine (out_A_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) hw0).trans ?_
    rw [blk_0, blk_1, blk_2, blk_3, blk_4, blk_5, blk_6, blk_7, blk_10]
    rfl
  · refine (out_A_xc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) hw0).trans ?_
    rw [blk_0, blk_1]
  · refine (out_A_xs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) hw0).trans ?_
    rw [blk_0, blk_1]
  · refine (out_A_w0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).trans ?_
    rw [blk_8, blk_9]
    rfl

/-- What a later point leaves, from what the point before left. -/
theorem outs_next (c : Dev nD) (t : Fin cfg0.N) (h0 : ¬t.val % 9 = 0) (h1 : 1 ≤ t.val)
    (p : Vec Ideal S1920x768 .bf16 × Vec Ideal S1920x2560 .fp8e4m3 × Vec Ideal S1920x1 .f32 × Vec Ideal S640x256 .i32)
    (hp : outsAt0 m c (t.val - 1) (Nat.lt_of_le_of_lt (Nat.sub_le _ _) t.isLt) = p) :
    outsAt0 m c t.val t.isLt =
      (product ![p.2.2.2, tile m c (3 * t.val + 1) (by have := lt9 t; omega), tile m c (3 * t.val + 2) (by have := lt9 t; omega)]
        p.2.1 p.2.2.1 (sBlk m c t.val (lt9 t)),
       p.2.1, p.2.2.1, tile m c (min (3 * t.val + 3) 26) (by omega)) := by
  refine (outsAt0_B m c t h0 h1).trans ?_
  rw [hp]
  refine quad ?_ rfl rfl ?_
  · refine (out_B_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.1 p.2.2.1 p.2.2.2).trans ?_
    rw [blk_4, blk_5, blk_6, blk_7, blk_10]
    rfl
  · refine (out_B_w0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.1 p.2.2.1 p.2.2.2).trans ?_
    rw [blk_8, blk_9]
    rfl

/-- What point `n` leaves: its block of the product, the codes and scales of all rows, the first tile of the next point. -/
theorem outs (c : Dev nD) (hw : ∀ k, ∃ W : ℝ, nAll m c (ix2 0 k) = (W : EReal) ∧ |W| ≤ (2 : ℝ) ^ 128) :
    ∀ (n : ℕ) (hn : n < cfg0.N) (h9 : n < 9), outsAt0 m c n hn =
      (product ![tile m c (3 * n) (by omega), tile m c (3 * n + 1) (by omega), tile m c (3 * n + 2) (by omega)]
        (codes (xAll m c) (nAll m c)) (scales (xAll m c) (nAll m c)) (sBlk m c n h9),
       codes (xAll m c) (nAll m c), scales (xAll m c) (nAll m c), tile m c (min (3 * n + 3) 26) (by omega)) := by
  intro n
  induction n with
  | zero =>
    intro hn h9
    exact outs_first m c hw ⟨0, hn⟩ (Nat.zero_mod _) (Nat.not_succ_le_zero 0) (3 * 0) (by omega) (by omega)
  | succ n ih =>
    intro hn h9
    have ihn := ih (Nat.lt_of_succ_lt hn) (by omega)
    refine (outs_next m c ⟨n + 1, hn⟩ (fun h => absurd (show (n + 1) % 9 = 0 from h) (by omega)) (Nat.succ_le_succ (Nat.zero_le n)) _ ihn).trans ?_
    refine quad ?_ rfl rfl rfl
    refine congrArg (fun z => product ![z, tile m c (3 * (n + 1) + 1) (by omega), tile m c (3 * (n + 1) + 2) (by omega)]
        (codes (xAll m c) (nAll m c)) (scales (xAll m c) (nAll m c)) (sBlk m c (n + 1) h9)) ?_
    exact tile_congr m c _ _ (by omega)

end Cert.KernelIdeal.Named

end
-- ==== Proof.Closed.lean ====
module

public import proofs.«01_k».proof.Proof.Quant
public import proofs.«01_k».proof.Proof.Words

@[expose] public section

noncomputable section

namespace Cert.Closed

open Idealize.ShloMosaic

/-! The three results as functions of the rows, the norm's weights, the dense codes and the output scales. -/

/-- The product at row `i` and output column `n`: the dot product of the row's codes with the weight row's, scaled. -/
def yOf (X : Fin 1920 → Fin 2560 → EReal) (W : Fin 2560 → EReal) (D : Fin 6912 → Fin 2560 → BitVec 8) (S : Fin 6912 → EReal)
    (i : Fin 1920) (n : Fin 6912) : EReal :=
  (∑ k : Fin 2560, Quant.codeOf (X i) W k * Ideal.ofBits .fp8e4m3 (D n k)) * Quant.scaleOf (X i) W * S n

end Cert.Closed

end
-- ==== Proof.Final.lean ====
module

public import proofs.«01_k».proof.Proof.Points
public import proofs.«01_k».proof.Proof.Closed

@[expose] public section

set_option maxRecDepth 16384

noncomputable section

namespace Cert.KernelIdeal.Named

open Cert.KernelIdeal.Gen

open Idealize.ShloMosaic Idealize.ShloMosaic.TcCoe Idealize.ShloMosaic.Tactic

open Idealize.SL.Sem
open Idealize.ShloMosaic.Pipeline (Dat)

set_option maxHeartbeats 1000000

variable (m : (ℓ : Loc nD τ sig) → Buf (Elt Ideal) ℓ) (ρ : Dev nD → PrngReg)

/-! The kernel's result arrays after the run. -/

/-- The dense codes of the weight matrix. -/
def dense (c : Dev nD) (n : Fin 6912) (k : Fin 2560) : BitVec 8 :=
  Words.rowCode (fun a => wvAll m c (ix2 n a)) (fun g => wiAll m c (ix2 n g)) k

/-- The product as the kernel leaves it. -/
def G11 (c : Dev nD) : Vec Ideal S1920x6912 .bf16 := fun y =>
  Closed.yOf (fun i k => xAll m c (ix2 i k)) (fun k => nAll m c (ix2 0 k)) (dense m c) (fun n => sAll m c (ix2 0 n))
    (⟨(y 0).val, (y 0).isLt⟩ : Fin 1920) (⟨(y 1).val, (y 1).isLt⟩ : Fin 6912)

theorem tiles_fun (c : Dev nD) (n : ℕ) (h9 : n < 9) :
    (![tile m c (3 * n) (by omega), tile m c (3 * n + 1) (by omega), tile m c (3 * n + 2) (by omega)] : Fin 3 → Vec Ideal S640x256 .i32)
      = fun r => tile m c (3 * n + r.val) (by omega) := by
  funext r
  fin_cases r <;> rfl

/-- Two positions of a group differ, for every group of every weight row. -/
def Apart (c : Dev nD) : Prop := ∀ (n : Fin 6912) (g : Fin 80) (j : ℕ), j < 8 →
  Words.pos (wiAll m c (ix2 n g)) (4 * j) ≠ Words.pos (wiAll m c (ix2 n g)) (4 * j + 2)

/-- The norm's weights are real numbers of a float32's size. -/
def Finite (c : Dev nD) : Prop := ∀ k, ∃ W : ℝ, nAll m c (ix2 0 k) = (W : EReal) ∧ |W| ≤ (2 : ℝ) ^ 128

theorem tile_code (c : Dev nD) (hne : Apart m c) (q : ℕ) (hq : q < 27) (n : Fin 256) (N : Fin 6912) (hN : N.val = 256 * q + n.val) (k : Fin 2560) :
    bitcast S2560x256 8 (tile m c q hq) bitcasts_S640x256_w32_S2560x256_w8 (ix2 k n) = dense m c N k := by
  have hb : 256 * q + n.val < 6912 := by omega
  obtain rfl : N = (⟨256 * q + n.val, hb⟩ : Fin 6912) := Fin.ext hN
  exact bitcast_expanded (wvTile m c q hq) (wiTile m c q hq) n (fun g j hj => hne _ g j hj) k

/-- A block of the product is its part of the whole. -/
theorem product_point (c : Dev nD) (hne : Apart m c) (n : ℕ) (h9 : n < 9) (y : S1920x768.Idx) (i : S1920x6912.Idx)
    (h0 : (i 0).val = (y 0).val) (h1 : (i 1).val = 768 * n + (y 1).val) :
    product ![tile m c (3 * n) (by omega), tile m c (3 * n + 1) (by omega), tile m c (3 * n + 2) (by omega)]
        (codes (xAll m c) (nAll m c)) (scales (xAll m c) (nAll m c)) (sBlk m c n h9) y = G11 m c i := by
  rw [tiles_fun m c n h9]
  have hy0 : (y 0).val < 1920 := (y 0).isLt
  have hy1 : (y 1).val < 768 := (y 1).isLt
  have hi0 : (i 0).val < 1920 := (i 0).isLt
  have hi1 : (i 1).val < 6912 := (i 1).isLt
  have e0 : (⟨(y 0).val, hy0⟩ : Fin 1920) = ⟨(i 0).val, hi0⟩ := Fin.ext h0.symm
  have e1 : (⟨768 * n + (y 1).val, by omega⟩ : Fin 6912) = ⟨(i 1).val, hi1⟩ := Fin.ext h1.symm
  have hc : ∀ k : Fin 2560, bitcast S2560x256 8 (tile m c (3 * n + (y 1).val / 256) (by omega)) bitcasts_S640x256_w32_S2560x256_w8
      (ix2 k (⟨(y 1).val % 256, Nat.mod_lt _ (by decide)⟩ : Fin 256)) = dense m c ⟨(i 1).val, hi1⟩ k := fun k =>
    tile_code m c hne _ _ _ _ (by show (i 1).val = 256 * (3 * n + (y 1).val / 256) + (y 1).val % 256; omega) k
  have hs : sBlk m c n h9 (ix2 (0 : Fin 1) (⟨(y 1).val, hy1⟩ : Fin 768)) = sAll m c (ix2 (0 : Fin 1) (⟨(i 1).val, hi1⟩ : Fin 6912)) :=
    congrArg (fun z : Fin 6912 => sAll m c (ix2 (0 : Fin 1) z)) e1
  have hx : (fun j => xAll m c (ix2 (⟨(y 0).val, hy0⟩ : Fin 1920) j)) = fun j => xAll m c (ix2 (⟨(i 0).val, hi0⟩ : Fin 1920) j) := by rw [e0]
  show ((∑ k : Fin 2560, Quant.codeOf (fun j => xAll m c (ix2 (⟨(y 0).val, hy0⟩ : Fin 1920) j)) (fun j => nAll m c (ix2 0 j)) k *
      Ideal.ofBits .fp8e4m3 (bitcast S2560x256 8 (tile m c (3 * n + (y 1).val / 256) (by omega)) bitcasts_S640x256_w32_S2560x256_w8
      (ix2 k (⟨(y 1).val % 256, Nat.mod_lt _ (by decide)⟩ : Fin 256))))
    * Quant.scaleOf (fun j => xAll m c (ix2 (⟨(y 0).val, hy0⟩ : Fin 1920) j)) (fun j => nAll m c (ix2 0 j))
    * sBlk m c n h9 (ix2 (0 : Fin 1) (⟨(y 1).val, hy1⟩ : Fin 768)) : EReal) = _
  rw [hs, hx]
  simp only [hc]
  rfl

theorem index_11 : ∀ t : Fin cfg0.N, win0_11.index t (0 : Fin 2) = 0 ∧ win0_11.index t (1 : Fin 2) = t.val :=
  (by decide +kernel : ∀ t : Fin grid0.N, _)

theorem flush_11 : ∀ q : Fin 9, win0_11.flush (⟨q.val, lt_of_lt_of_eq (by omega) N_0.symm⟩ : Fin grid0.N) = true := by decide +kernel

/-- What a point writes back is its block of the whole. -/
theorem flushed_11 (c : Dev nD) (hw : Finite m c) (hne : Apart m c) (t : Fin cfg0.N) :
    (dats m 0 c).flushed 11 t = ((cfg0.win 11).blk t).view.read (Elt Ideal) (G11 m c) := by
  show (cfg0.win 11).cut (grid0.coords t) ((dats m 0 c).after 11 t) = _
  rw [after0_11, outs m c hw t.val t.isLt (lt9 t)]
  obtain ⟨e0, e1⟩ := index_11 t
  funext y
  have hb0 : (((cfg0.win 11).blk t).view.emb y (0 : Fin 2)).val = win0_11.index t (0 : Fin 2) * 1920 + 1 * (y (0 : Fin 2)).val := rfl
  have hb1 : (((cfg0.win 11).blk t).view.emb y (1 : Fin 2)).val = win0_11.index t (1 : Fin 2) * 768 + 1 * (y (1 : Fin 2)).val := rfl
  exact product_point m c hne t.val (lt9 t) ((cfg0.win 11).xinj (grid0.coords t) y) (((cfg0.win 11).blk t).view.emb y)
    (hb0.trans (show _ = (y (0 : Fin 2)).val by rw [e0]; omega)) (hb1.trans (show _ = 768 * t.val + (y (1 : Fin 2)).val by rw [e1]; omega))

theorem mem_blk_11 (t : Fin cfg0.N) (i : S1920x6912.Idx) :
    i ∈ ((cfg0.win 11).blk t).view.set ↔ ∀ a : Fin 2, win0_11.index t a * S1920x768.size a ≤ (i a).val ∧ (i a).val < win0_11.index t a * S1920x768.size a + S1920x768.size a := by
  show i ∈ ((View.whole main_v3_0).slice (win0_11.rect t)).set ↔ _
  rw [View.set_slice_whole, Rect.mem_set_unit]
  exact Iff.rfl

/-- The array after the run. -/
theorem final_11 (c : Dev nD) (hw : Finite m c) (hne : Apart m c) : (dats m 0 c).arrAt 11 cfg0.N = G11 m c :=
  (dats m 0 c).arrAt_eq_of_cover 11 _ (fun t _ => flushed_11 m c hw hne t) (fun i => by
    have hi0 : (i (0 : Fin 2)).val < 1920 := (i (0 : Fin 2)).isLt
    have hi1 : (i (1 : Fin 2)).val < 6912 := (i (1 : Fin 2)).isLt
    obtain ⟨e0, e1⟩ := index_11 (⟨(i (1 : Fin 2)).val / 768, lt_of_lt_of_eq (by omega) N_0.symm⟩ : Fin grid0.N)
    refine ⟨(⟨(i (1 : Fin 2)).val / 768, lt_of_lt_of_eq (by omega) N_0.symm⟩ : Fin grid0.N), flush_11 ⟨(i (1 : Fin 2)).val / 768, by omega⟩, ?_⟩
    rw [mem_blk_11]
    intro a
    match a with
    | ⟨0, _⟩ =>
      show win0_11.index _ (0 : Fin 2) * 1920 ≤ (i (0 : Fin 2)).val ∧ (i (0 : Fin 2)).val < win0_11.index _ (0 : Fin 2) * 1920 + 1920
      rw [e0]; omega
    | ⟨1, _⟩ =>
      show win0_11.index _ (1 : Fin 2) * 768 ≤ (i (1 : Fin 2)).val ∧ (i (1 : Fin 2)).val < win0_11.index _ (1 : Fin 2) * 768 + 768
      rw [e1]; dsimp only; omega)

theorem index_12 : ∀ t : Fin cfg0.N, win0_12.index t (0 : Fin 2) = 0 ∧ win0_12.index t (1 : Fin 2) = 0 :=
  (by decide +kernel : ∀ t : Fin grid0.N, _)

theorem flush_12 : ∀ q : Fin 9, win0_12.flush (⟨8, lt_of_lt_of_eq (by omega) N_0.symm⟩ : Fin grid0.N) = true := by decide +kernel

/-- What a point writes back is its block of the whole. -/
theorem flushed_12 (c : Dev nD) (hw : Finite m c) (t : Fin cfg0.N) :
    (dats m 0 c).flushed 12 t = ((cfg0.win 12).blk t).view.read (Elt Ideal) (codes (xAll m c) (nAll m c)) := by
  show (cfg0.win 12).cut (grid0.coords t) ((dats m 0 c).after 12 t) = _
  rw [after0_12, outs m c hw t.val t.isLt (lt9 t)]
  obtain ⟨e0, e1⟩ := index_12 t
  funext y
  have hb0 : (((cfg0.win 12).blk t).view.emb y (0 : Fin 2)).val = win0_12.index t (0 : Fin 2) * 1920 + 1 * (y (0 : Fin 2)).val := rfl
  have hb1 : (((cfg0.win 12).blk t).view.emb y (1 : Fin 2)).val = win0_12.index t (1 : Fin 2) * 2560 + 1 * (y (1 : Fin 2)).val := rfl
  refine congrArg (codes (xAll m c) (nAll m c)) ?_
  funext d
  apply Fin.ext
  match d with
  | ⟨0, _⟩ => exact (hb0.trans (show _ = (y (0 : Fin 2)).val by rw [e0]; omega)).symm
  | ⟨1, _⟩ => exact (hb1.trans (show _ = (y (1 : Fin 2)).val by rw [e1]; omega)).symm

theorem mem_blk_12 (t : Fin cfg0.N) (i : S1920x2560.Idx) :
    i ∈ ((cfg0.win 12).blk t).view.set ↔ ∀ a : Fin 2, win0_12.index t a * S1920x2560.size a ≤ (i a).val ∧ (i a).val < win0_12.index t a * S1920x2560.size a + S1920x2560.size a := by
  show i ∈ ((View.whole main_v3_1).slice (win0_12.rect t)).set ↔ _
  rw [View.set_slice_whole, Rect.mem_set_unit]
  exact Iff.rfl

/-- The array after the run. -/
theorem final_12 (c : Dev nD) (hw : Finite m c) : (dats m 0 c).arrAt 12 cfg0.N = codes (xAll m c) (nAll m c) :=
  (dats m 0 c).arrAt_eq_of_cover 12 _ (fun t _ => flushed_12 m c hw t) (fun i => by
    have hi0 : (i (0 : Fin 2)).val < 1920 := (i (0 : Fin 2)).isLt
    have hi1 : (i (1 : Fin 2)).val < 2560 := (i (1 : Fin 2)).isLt
    obtain ⟨e0, e1⟩ := index_12 (⟨8, lt_of_lt_of_eq (by omega) N_0.symm⟩ : Fin grid0.N)
    refine ⟨(⟨8, lt_of_lt_of_eq (by omega) N_0.symm⟩ : Fin grid0.N), flush_12 0, ?_⟩
    rw [mem_blk_12]
    intro a
    match a with
    | ⟨0, _⟩ =>
      show win0_12.index _ (0 : Fin 2) * 1920 ≤ (i (0 : Fin 2)).val ∧ (i (0 : Fin 2)).val < win0_12.index _ (0 : Fin 2) * 1920 + 1920
      rw [e0]; omega
    | ⟨1, _⟩ =>
      show win0_12.index _ (1 : Fin 2) * 2560 ≤ (i (1 : Fin 2)).val ∧ (i (1 : Fin 2)).val < win0_12.index _ (1 : Fin 2) * 2560 + 2560
      rw [e1]; dsimp only; omega)

theorem index_13 : ∀ t : Fin cfg0.N, win0_13.index t (0 : Fin 2) = 0 ∧ win0_13.index t (1 : Fin 2) = 0 :=
  (by decide +kernel : ∀ t : Fin grid0.N, _)

theorem flush_13 : ∀ q : Fin 9, win0_13.flush (⟨8, lt_of_lt_of_eq (by omega) N_0.symm⟩ : Fin grid0.N) = true := by decide +kernel

/-- What a point writes back is its block of the whole. -/
theorem flushed_13 (c : Dev nD) (hw : Finite m c) (t : Fin cfg0.N) :
    (dats m 0 c).flushed 13 t = ((cfg0.win 13).blk t).view.read (Elt Ideal) (scales (xAll m c) (nAll m c)) := by
  show (cfg0.win 13).cut (grid0.coords t) ((dats m 0 c).after 13 t) = _
  rw [after0_13, outs m c hw t.val t.isLt (lt9 t)]
  obtain ⟨e0, e1⟩ := index_13 t
  funext y
  have hb0 : (((cfg0.win 13).blk t).view.emb y (0 : Fin 2)).val = win0_13.index t (0 : Fin 2) * 1920 + 1 * (y (0 : Fin 2)).val := rfl
  have hb1 : (((cfg0.win 13).blk t).view.emb y (1 : Fin 2)).val = win0_13.index t (1 : Fin 2) * 1 + 1 * (y (1 : Fin 2)).val := rfl
  refine congrArg (scales (xAll m c) (nAll m c)) ?_
  funext d
  apply Fin.ext
  match d with
  | ⟨0, _⟩ => exact (hb0.trans (show _ = (y (0 : Fin 2)).val by rw [e0]; omega)).symm
  | ⟨1, _⟩ => exact (hb1.trans (show _ = (y (1 : Fin 2)).val by rw [e1]; omega)).symm

theorem mem_blk_13 (t : Fin cfg0.N) (i : S1920x1.Idx) :
    i ∈ ((cfg0.win 13).blk t).view.set ↔ ∀ a : Fin 2, win0_13.index t a * S1920x1.size a ≤ (i a).val ∧ (i a).val < win0_13.index t a * S1920x1.size a + S1920x1.size a := by
  show i ∈ ((View.whole main_v3_2).slice (win0_13.rect t)).set ↔ _
  rw [View.set_slice_whole, Rect.mem_set_unit]
  exact Iff.rfl

/-- The array after the run. -/
theorem final_13 (c : Dev nD) (hw : Finite m c) : (dats m 0 c).arrAt 13 cfg0.N = scales (xAll m c) (nAll m c) :=
  (dats m 0 c).arrAt_eq_of_cover 13 _ (fun t _ => flushed_13 m c hw t) (fun i => by
    have hi0 : (i (0 : Fin 2)).val < 1920 := (i (0 : Fin 2)).isLt
    have hi1 : (i (1 : Fin 2)).val < 1 := (i (1 : Fin 2)).isLt
    obtain ⟨e0, e1⟩ := index_13 (⟨8, lt_of_lt_of_eq (by omega) N_0.symm⟩ : Fin grid0.N)
    refine ⟨(⟨8, lt_of_lt_of_eq (by omega) N_0.symm⟩ : Fin grid0.N), flush_13 0, ?_⟩
    rw [mem_blk_13]
    intro a
    match a with
    | ⟨0, _⟩ =>
      show win0_13.index _ (0 : Fin 2) * 1920 ≤ (i (0 : Fin 2)).val ∧ (i (0 : Fin 2)).val < win0_13.index _ (0 : Fin 2) * 1920 + 1920
      rw [e0]; omega
    | ⟨1, _⟩ =>
      show win0_13.index _ (1 : Fin 2) * 1 ≤ (i (1 : Fin 2)).val ∧ (i (1 : Fin 2)).val < win0_13.index _ (1 : Fin 2) * 1 + 1
      rw [e1]; dsimp only; omega)

/-! The run, read. -/

/-- After the run, where the norm's weights are finite and each group's positions differ: the three results, and the arguments unchanged. -/
theorem run_values (hw : ∀ c, Finite m c) (hne : ∀ c, Apart m c) : θ_run defs (onTc (τ := τ) (main (F := Ideal))) ⟨m, fun _ => 0, ρ⟩ fun r => ∀ c : Dev nD,
      r.2.mem ((c : Thread nD τ).loc main_v3_0) = G11 m c
      ∧ r.2.mem ((c : Thread nD τ).loc main_v3_1) = codes (xAll m c) (nAll m c)
      ∧ r.2.mem ((c : Thread nD τ).loc main_v3_2) = scales (xAll m c) (nAll m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 11).trans (final_11 m c (hw c) (hne c)),
      ((h c).1 12).trans (final_12 m c (hw c)),
      ((h c).1 13).trans (final_13 m c (hw c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 8).trans (((dats m 0 c).arrAt_in 8 rfl _).trans ((A_eq m c 8).trans (V_main_arg2 m c))),
      ((h c).1 9).trans (((dats m 0 c).arrAt_in 9 rfl _).trans ((A_eq m c 9).trans (V_main_arg3 m c))),
      ((h c).2 main_arg4 (Pipeline.mem_restRefs_of main_arg4 (by decide) (by decide))).trans (V_main_arg4 m c)⟩)
    (run_main m ρ)

/-- The rows the region finds: the input reshaped. -/
theorem xAll_eq (c : Dev nD) : xAll m c = shapeCast S1920x2560 (m ((c : Thread nD τ).loc main_arg0)) shapeCasts_S3x640x2560_S1920x2560 := by
  unfold xAll
  entry_read
  try rfl

theorem nAll_eq (c : Dev nD) : nAll m c = shapeCast S1x2560 (m ((c : Thread nD τ).loc main_arg1)) shapeCasts_S2560_S1x2560 := by
  unfold nAll
  entry_read
  try rfl

theorem sAll_eq (c : Dev nD) : sAll m c = shapeCast S1x6912 (m ((c : Thread nD τ).loc main_arg4)) shapeCasts_S6912_S1x6912 := by
  unfold sAll
  entry_read
  try rfl

end Cert.KernelIdeal.Named

end
-- ==== Proof.RefRows.lean ====
module

public import proofs.«01_k».proof.Proof.Gen.ReferenceIdeal.Skeleton
public import proofs.«01_k».proof.Proof.Quant
public import Idealize.ShloMosaic.Lib.Pointwise
public import Idealize.ShloMosaic.Lib.Pipeline.Value

@[expose] public section

set_option maxRecDepth 16384

noncomputable section

namespace Cert.ReferenceIdeal.Value

open Cert.ReferenceIdeal.Gen

open Idealize.ShloMosaic Idealize.ShloMosaic.TcCoe Idealize.ShloMosaic.Tactic

open Cert.Quant

/-! The reference's payloads, a row at a time, on the exact numbers. -/

theorem mean_eq (S : EReal) : Ideal.div S (Ideal.ofBits .f32 0x45200000#32) = S * ((1 / 2560 : ℝ) : EReal) := by
  have e : Ideal.ofBits .f32 0x45200000#32 = ((2560 : ℝ) : EReal) := by
    simp [Ideal.ofBits, Ideal.ieee, -EReal.coe_mul]; norm_num
  rw [e]
  refine (Ideal.div_coe (by norm_num : (2560 : ℝ) ≠ 0) S).trans ?_
  rw [one_div]

theorem pay2_apply (x : Vec Ideal S1920x2560 .bf16) (w : Vec Ideal S1x2560 .f32) (i : Fin 1920) (k : Fin 2560) :
    k0_pay2 x w (ix2 i k) = vrow (fun j => x (ix2 i j)) (fun j => w (ix2 0 j)) k := by
  unfold vrow
  rw [← mean_eq]
  pointwise [k0_pay2]
  rfl

theorem cst_apply (s : Shape) (b : BitVec 32) (j : s.Idx) : broadcast s (Scalar.ofBits (F := Ideal) .f32 b) j = Ideal.ofBits .f32 b := rfl
theorem select_at {s : Shape} (a : IVec s 1) (b c : FVec Ideal s .f32) (j : s.Idx) : select a b c j = Scalar.select (a j) (b j) (c j) := rfl
theorem cmpf_at {s : Shape} (a b : FVec Ideal s .f32) (j : s.Idx) : cmpf .olt a b j = Ideal.cmp .olt (a j) (b j) := rfl
theorem addf_at {s : Shape} (a b : FVec Ideal s .f32) (j : s.Idx) : addf a b j = (a j : EReal) + b j := rfl
theorem subf_at {s : Shape} (a b : FVec Ideal s .f32) (j : s.Idx) : subf a b j = (a j : EReal) - b j := rfl
theorem mulf_at {s : Shape} (a b : FVec Ideal s .f32) (j : s.Idx) : mulf a b j = (a j : EReal) * b j := rfl
theorem divf_at {s : Shape} (a b : FVec Ideal s .f32) (j : s.Idx) : divf a b j = Ideal.div (a j) (b j) := rfl
theorem log_at {s : Shape} (a : FVec Ideal s .f32) (j : s.Idx) : log a j = Ideal.log (a j) := rfl
theorem exp2_at {s : Shape} (a : FVec Ideal s .f32) (j : s.Idx) : exp2 a j = Ideal.exp2 (a j) := rfl
theorem floor_at {s : Shape} (a : FVec Ideal s .f32) (j : s.Idx) : floor a j = Ideal.liftRound Int.floor (a j) := rfl
theorem maximumf_at {s : Shape} (a b : FVec Ideal s .f32) (j : s.Idx) : maximumf a b j = max (a j : EReal) (b j) := rfl
theorem minimumf_at {s : Shape} (a b : FVec Ideal s .f32) (j : s.Idx) : minimumf a b j = min (a j : EReal) (b j) := rfl
theorem absf_at {s : Shape} (a : FVec Ideal s .f32) (j : s.Idx) : absf a j = max (a j : EReal) (-(a j : EReal)) := rfl
theorem truncf_at {s : Shape} (a : FVec Ideal s .f32) (h : FTy.bits .fp8e4m3 < FTy.bits .f32) (j : s.Idx) : truncf .fp8e4m3 a h j = a j := rfl

/-- A row's largest entry. -/
theorem rowMax_apply (a : FVec Ideal S1920x2560 .f32) (i : Fin 1920) :
    shapeCast S1920x1 (multiReduction .maximumf [1] S1920 a 0xFF800000#32 reduces_S1920x2560_S1920 (.inl rfl) rfl)
      shapeCasts_S1920_S1920x1 (ix2 i 0) = Finset.fold max (Ideal.ofBits .f32 0xFF800000#32) (fun k => a (ix2 i k)) Finset.univ := by
  pointwise

/-- The reference's scaled largest magnitude. -/
def top (x : Vec Ideal S1920x2560 .bf16) (w : Vec Ideal S1x2560 .f32) : FVec Ideal S1920x1 .f32 :=
  mulf (shapeCast S1920x1 (multiReduction .maximumf [1] S1920 (absf (k0_pay2 x w)) 0xFF800000#32 reduces_S1920x2560_S1920 (.inl rfl) rfl)
    shapeCasts_S1920_S1920x1) (broadcast S1920x1 (Scalar.ofBits .f32 0x3B124925#32))

theorem top_apply (x : Vec Ideal S1920x2560 .bf16) (w : Vec Ideal S1x2560 .f32) (i : Fin 1920) :
    top x w (ix2 i 0) = amax (vrow (fun j => x (ix2 i j)) (fun j => w (ix2 0 j))) * c448 := by
  have h : top x w = mulf (shapeCast S1920x1 (multiReduction .maximumf [1] S1920 (absf (k0_pay2 x w)) 0xFF800000#32
    reduces_S1920x2560_S1920 (.inl rfl) rfl) shapeCasts_S1920_S1920x1) (broadcast S1920x1 (Scalar.ofBits .f32 0x3B124925#32)) := rfl
  rw [h, mulf_at, cst_apply, rowMax_apply]
  unfold amax c448
  simp only [absf_at, pay2_apply]

/-- The reference's exponent of a column. -/
def expOf (t : FVec Ideal S1920x1 .f32) : FVec Ideal S1920x1 .f32 :=
  select (cmpf .olt t (broadcast S1920x1 (Scalar.ofBits .f32 0x00800000#32))) (broadcast S1920x1 (Scalar.ofBits .f32 0x00000000#32))
    (addf (floor (divf (log t) (log (broadcast S1920x1 (Scalar.ofBits .f32 0x40000000#32))))) (broadcast S1920x1 (Scalar.ofBits .f32 0x3F800000#32)))

theorem expOf_apply (t : FVec Ideal S1920x1 .f32) (j : S1920x1.Idx) : expOf t j = rexp (t j) := by
  unfold expOf rexp
  rw [select_at, cmpf_at, addf_at, floor_at, divf_at, log_at, log_at, cst_apply, cst_apply, cst_apply, cst_apply]

theorem pay3_apply (x : Vec Ideal S1920x2560 .bf16) (w : Vec Ideal S1x2560 .f32) (i : Fin 1920) :
    k0_pay3 x w (ix2 i 0) = rexp (amax (vrow (fun j => x (ix2 i j)) (fun j => w (ix2 0 j))) * c448) := by
  rw [← top_apply]
  have h : k0_pay3 x w = expOf (top x w) := rfl
  rw [h, expOf_apply]

/-- A row of the reference's codes. -/
theorem code_apply (x : Vec Ideal S1920x2560 .bf16) (w : Vec Ideal S1x2560 .f32) (i : Fin 1920) (k : Fin 2560) :
    k0_pay4 x w (ix2 i k) = codeOf (fun j => x (ix2 i j)) (fun j => w (ix2 0 j)) k := by
  unfold codeOf
  rw [← pay3_apply, ← pay2_apply]
  have h : k0_pay4 x w = truncf .fp8e4m3 (minimumf (broadcast S1920x2560 (Scalar.ofBits .f32 0x43E00000#32))
      (maximumf (broadcast S1920x2560 (Scalar.ofBits .f32 0xC3E00000#32)) (mulf (k0_pay2 x w)
        (broadcastTo S1920x2560 (exp2 (subf (broadcast S1920x1 (Scalar.ofBits .f32 0x00000000#32)) (k0_pay3 x w)))
          broadcasts_S1920x1_S1920x2560)))) bitsLt_fp8e4m3_f32 := rfl
  rw [h, truncf_at, minimumf_at, maximumf_at, mulf_at, cst_apply, cst_apply,
    broadcastTo_apply _ _ (ix2 i k) (ix2 i (0 : Fin 1)) (fun a => by fin_cases a <;> rfl), exp2_at, subf_at, cst_apply]

/-- A row of the reference's scales. -/
theorem scale_apply (x : Vec Ideal S1920x2560 .bf16) (w : Vec Ideal S1x2560 .f32) (i : Fin 1920) :
    k0_pay5 x w (ix2 i 0) = scaleOf (fun j => x (ix2 i j)) (fun j => w (ix2 0 j)) := by
  unfold scaleOf
  rw [← pay3_apply]
  have h : k0_pay5 x w = exp2 (k0_pay3 x w) := rfl
  rw [h, exp2_at]

/-- An entry of the reference's product. -/
theorem pay1_apply (xc : FVec Ideal S1920x2560 .fp8e4m3) (xs : FVec Ideal S1920x1 .f32) (w : Vec Ideal S6912x2560 .i8)
    (ws : Vec Ideal S1x6912 .f32) (i : Fin 1920) (n : Fin 6912) :
    k0_pay1 xc xs w ws (ix2 i n) = (∑ k : Fin 2560, xc (ix2 i k) * Ideal.ofBits .fp8e4m3 (w (ix2 n k))) * xs (ix2 i 0) * ws (ix2 0 n) := by
  pointwise [k0_pay1]

end Cert.ReferenceIdeal.Value
end
end
-- ==== Proof.RefDense.lean ====
module

public import proofs.«01_k».proof.Proof.RefRows
public import proofs.«01_k».proof.Proof.Words
public import proofs.«01_k».proof.Proof.Gen.ReferenceIdeal.Frame

@[expose] public section

noncomputable section

namespace Cert.ReferenceIdeal.Value

open Cert.ReferenceIdeal.Gen
open Idealize.ShloMosaic Idealize.ShloMosaic.TcCoe Idealize.ShloMosaic.Tactic

set_option maxHeartbeats 1000000

/-! The reference's dense weight codes: its host operations, read at an index. -/

/-- Where a group's bits start in its word. -/
def off0 : IVec S8 32 := muli (broadcastInDim S8 ![] bcast_S_S8 (constantI S_ 32 4#32)) (iotaInDim S8 32 0)
/-- Where a group's second position starts in its word. -/
def off1 : IVec S8 32 := addi off0 (broadcastInDim S8 ![] bcast_S_S8 (constantI S_ 32 2#32))

theorem off0_apply (j : Fin 8) : off0 (ix1 j) = BitVec.ofNat 32 (4 * j.val) := by
  show IntOp.muli (4#32 : BitVec 32) (BitVec.ofNat 32 j.val) = _
  fin_cases j <;> rfl

theorem off1_apply (j : Fin 8) : off1 (ix1 j) = BitVec.ofNat 32 (4 * j.val + 2) := by
  show IntOp.addi (off0 (ix1 j)) (2#32 : BitVec 32) = _
  rw [off0_apply]
  fin_cases j <;> rfl

/-- The two bits at `off` of every word. -/
def posOf (off : IVec S8 32) (q : IVec S6912x80 32) : IVec S6912x80x8 32 :=
  andi (Host.shrsi
      (broadcastInDim S6912x80x8 ![0, 1, 2] bcast_S6912x80x1_S6912x80x8_0_1_2 (broadcastInDim S6912x80x1 ![0, 1] bcast_S6912x80_S6912x80x1_0_1 q))
      (broadcastInDim S6912x80x8 ![0, 1, 2] bcast_S1x1x8_S6912x80x8_0_1_2 (broadcastInDim S1x1x8 ![2] bcast_S8_S1x1x8_2 off)))
    (broadcastInDim S6912x80x8 ![] bcast_S_S6912x80x8 (constantI S_ 32 3#32))

theorem posOf_apply (off : IVec S8 32) (q : IVec S6912x80 32) (n : Fin 6912) (g : Fin 80) (j : Fin 8) :
    posOf off q (ix3 n g j) = IntOp.andi (IntOp.shrsi .host (q (ix2 n g)) (off (ix1 j))) 3#32 := by
  have e1 : broadcastInDim S6912x80x8 ![0, 1, 2] bcast_S6912x80x1_S6912x80x8_0_1_2 (broadcastInDim S6912x80x1 ![0, 1] bcast_S6912x80_S6912x80x1_0_1 q) (ix3 n g j)
      = q (ix2 n g) := by
    refine (broadcastInDim_apply _ _ _ _ (ix3 n g (0 : Fin 1)) (by intro a; fin_cases a <;> rfl)).trans ?_
    exact broadcastInDim_apply _ _ _ _ (ix2 n g) (by intro a; fin_cases a <;> rfl)
  have e2 : broadcastInDim S6912x80x8 ![0, 1, 2] bcast_S1x1x8_S6912x80x8_0_1_2 (broadcastInDim S1x1x8 ![2] bcast_S8_S1x1x8_2 off) (ix3 n g j)
      = off (ix1 j) := by
    refine (broadcastInDim_apply _ _ _ _ (ix3 (0 : Fin 1) (0 : Fin 1) j) (by intro a; fin_cases a <;> rfl)).trans ?_
    exact broadcastInDim_apply _ _ _ _ (ix1 j) (by intro a; fin_cases a <;> rfl)
  show IntOp.andi (IntOp.shrsi .host (broadcastInDim S6912x80x8 ![0, 1, 2] bcast_S6912x80x1_S6912x80x8_0_1_2 (broadcastInDim S6912x80x1 ![0, 1] bcast_S6912x80_S6912x80x1_0_1 q) (ix3 n g j))
    (broadcastInDim S6912x80x8 ![0, 1, 2] bcast_S1x1x8_S6912x80x8_0_1_2 (broadcastInDim S1x1x8 ![2] bcast_S8_S1x1x8_2 off) (ix3 n g j))) 3#32 = _
  rw [e1, e2]

theorem pos0_apply (q : IVec S6912x80 32) (n : Fin 6912) (g : Fin 80) (j : Fin 8) :
    posOf off0 q (ix3 n g j) = Words.pos (q (ix2 n g)) (4 * j.val) := by
  rw [posOf_apply, off0_apply, Words.host_pos _ _ (by omega)]

theorem pos1_apply (q : IVec S6912x80 32) (n : Fin 6912) (g : Fin 80) (j : Fin 8) :
    posOf off1 q (ix3 n g j) = Words.pos (q (ix2 n g)) (4 * j.val + 2) := by
  rw [posOf_apply, off1_apply, Words.host_pos _ _ (by omega)]

/-- Whether a position is the place, for every place of every group. -/
def isAt (p : IVec S6912x80x8 32) : IVec S6912x80x8x4 1 :=
  cmpi .eq (broadcastInDim S6912x80x8x4 ![0, 1, 2, 3] bcast_S6912x80x8x1_S6912x80x8x4_0_1_2_3
      (broadcastInDim S6912x80x8x1 ![0, 1, 2] bcast_S6912x80x8_S6912x80x8x1_0_1_2 p))
    (broadcastInDim S6912x80x8x4 ![0, 1, 2, 3] bcast_S1x1x1x4_S6912x80x8x4_0_1_2_3
      (broadcastInDim S1x1x1x4 ![3] bcast_S4_S1x1x1x4_3 (iotaInDim S4 32 0)))

theorem isAt_apply (p : IVec S6912x80x8 32) (n : Fin 6912) (g : Fin 80) (j : Fin 8) (l : Fin 4) :
    isAt p (ix4 n g j l) = IntOp.cmpi .eq (p (ix3 n g j)) (BitVec.ofNat 32 l.val) := by
  have e1 : broadcastInDim S6912x80x8x4 ![0, 1, 2, 3] bcast_S6912x80x8x1_S6912x80x8x4_0_1_2_3
      (broadcastInDim S6912x80x8x1 ![0, 1, 2] bcast_S6912x80x8_S6912x80x8x1_0_1_2 p) (ix4 n g j l) = p (ix3 n g j) := by
    refine (broadcastInDim_apply _ _ _ _ (ix4 n g j (0 : Fin 1)) (by intro a; fin_cases a <;> rfl)).trans ?_
    exact broadcastInDim_apply _ _ _ _ (ix3 n g j) (by intro a; fin_cases a <;> rfl)
  have e2 : broadcastInDim S6912x80x8x4 ![0, 1, 2, 3] bcast_S1x1x1x4_S6912x80x8x4_0_1_2_3
      (broadcastInDim S1x1x1x4 ![3] bcast_S4_S1x1x1x4_3 (iotaInDim S4 32 0)) (ix4 n g j l) = BitVec.ofNat 32 l.val := by
    refine (broadcastInDim_apply _ _ _ _ (ix4 (0 : Fin 1) (0 : Fin 1) (0 : Fin 1) l) (by intro a; fin_cases a <;> rfl)).trans ?_
    exact (broadcastInDim_apply _ _ _ _ (ix1 l) (by intro a; fin_cases a <;> rfl)).trans rfl
  show IntOp.cmpi .eq (broadcastInDim S6912x80x8x4 ![0, 1, 2, 3] bcast_S6912x80x8x1_S6912x80x8x4_0_1_2_3
      (broadcastInDim S6912x80x8x1 ![0, 1, 2] bcast_S6912x80x8_S6912x80x8x1_0_1_2 p) (ix4 n g j l))
    (broadcastInDim S6912x80x8x4 ![0, 1, 2, 3] bcast_S1x1x1x4_S6912x80x8x4_0_1_2_3
      (broadcastInDim S1x1x1x4 ![3] bcast_S4_S1x1x1x4_3 (iotaInDim S4 32 0)) (ix4 n g j l)) = _
  rw [e1, e2]

/-- The kept codes in pairs. -/
def pairs (v : IVec S6912x1280 8) : IVec S6912x80x8x2 8 := shapeCast S6912x80x8x2 v shapeCasts_S6912x1280_S6912x80x8x2

theorem pairs_apply (v : IVec S6912x1280 8) (n : Fin 6912) (g : Fin 80) (j : Fin 8) (b : Fin 2) :
    pairs v (ix4 n g j b) = v (ix2 n (⟨16 * g.val + 2 * j.val + b.val, by omega⟩ : Fin 1280)) := by
  refine shapeCast_apply _ _ _ _ ?_
  rw [Shape.rowMajor_val_two, Shape.rowMajor_val_four]
  show n.val * 1280 + (16 * g.val + 2 * j.val + b.val) = ((n.val * 80 + g.val) * 8 + j.val) * 2 + b.val
  omega

/-- The first kept code of every group. -/
def val0 (v : IVec S6912x1280 8) : IVec S6912x80x8 8 :=
  shapeCast S6912x80x8 (extractStridedSlice S6912x80x8x1 ![0, 0, 0, 0] (pairs v) slices_S6912x80x8x2_S6912x80x8x1_0_0_0_0) shapeCasts_S6912x80x8x1_S6912x80x8
/-- The second kept code of every group. -/
def val1 (v : IVec S6912x1280 8) : IVec S6912x80x8 8 :=
  shapeCast S6912x80x8 (extractStridedSlice S6912x80x8x1 ![0, 0, 0, 1] (pairs v) slices_S6912x80x8x2_S6912x80x8x1_0_0_0_1) shapeCasts_S6912x80x8x1_S6912x80x8

theorem val0_apply (v : IVec S6912x1280 8) (n : Fin 6912) (g : Fin 80) (j : Fin 8) :
    val0 v (ix3 n g j) = v (ix2 n (⟨16 * g.val + 2 * j.val, by omega⟩ : Fin 1280)) := by
  refine (shapeCast_apply _ _ _ (ix4 n g j (0 : Fin 1)) ?_).trans ?_
  · rw [Shape.rowMajor_val_three, Shape.rowMajor_val_four]
    show ((n.val * 80 + g.val) * 8 + j.val) * 1 + 0 = (n.val * 80 + g.val) * 8 + j.val
    omega
  · refine (extractStridedSlice_apply _ _ _ _ (ix4 n g j (0 : Fin 2)) ?_).trans (pairs_apply v n g j 0)
    intro a
    fin_cases a
    · show n.val = 0 + n.val; omega
    · show g.val = 0 + g.val; omega
    · show j.val = 0 + j.val; omega
    · rfl

theorem val1_apply (v : IVec S6912x1280 8) (n : Fin 6912) (g : Fin 80) (j : Fin 8) :
    val1 v (ix3 n g j) = v (ix2 n (⟨16 * g.val + 2 * j.val + 1, by omega⟩ : Fin 1280)) := by
  refine (shapeCast_apply _ _ _ (ix4 n g j (0 : Fin 1)) ?_).trans ?_
  · rw [Shape.rowMajor_val_three, Shape.rowMajor_val_four]
    show ((n.val * 80 + g.val) * 8 + j.val) * 1 + 0 = (n.val * 80 + g.val) * 8 + j.val
    omega
  · refine (extractStridedSlice_apply _ _ _ _ (ix4 n g j (1 : Fin 2)) ?_).trans (pairs_apply v n g j 1)
    intro a
    fin_cases a
    · show n.val = 0 + n.val; omega
    · show g.val = 0 + g.val; omega
    · show j.val = 0 + j.val; omega
    · rfl

/-- A code per group at each of its places. -/
def spread (v : IVec S6912x80x8 8) : IVec S6912x80x8x4 8 :=
  broadcastInDim S6912x80x8x4 ![0, 1, 2, 3] bcast_S6912x80x8x1_S6912x80x8x4_0_1_2_3
    (broadcastInDim S6912x80x8x1 ![0, 1, 2] bcast_S6912x80x8_S6912x80x8x1_0_1_2 v)

theorem spread_apply (v : IVec S6912x80x8 8) (n : Fin 6912) (g : Fin 80) (j : Fin 8) (l : Fin 4) :
    spread v (ix4 n g j l) = v (ix3 n g j) := by
  refine (broadcastInDim_apply _ _ _ _ (ix4 n g j (0 : Fin 1)) (by intro a; fin_cases a <;> rfl)).trans ?_
  exact broadcastInDim_apply _ _ _ _ (ix3 n g j) (by intro a; fin_cases a <;> rfl)

/-- The codes of every place of every group. -/
def places (v : IVec S6912x1280 8) (q : IVec S6912x80 32) : IVec S6912x80x8x4 8 :=
  select (isAt (posOf off0 q)) (spread (val0 v))
    (select (isAt (posOf off1 q)) (spread (val1 v)) (broadcastInDim S6912x80x8x4 ![] bcast_S_S6912x80x8x4 (constantI S_ 8 0#8)))

theorem select_eq_bits {α : Type} {w : ℕ} (x y : BitVec w) (a b : α) :
    Scalar.select (IntOp.cmpi .eq x y) a b = if x = y then a else b := by
  by_cases h : x = y
  · have e : (x == y) = true := by simpa using h
    simp [Scalar.select, IntOp.cmpi, h]
  · have e : (x == y) = false := by simpa using h
    simp [Scalar.select, IntOp.cmpi, h, e]

theorem places_apply (v : IVec S6912x1280 8) (q : IVec S6912x80 32) (n : Fin 6912) (g : Fin 80) (j : Fin 8) (l : Fin 4) :
    places v q (ix4 n g j l) = Words.code (v (ix2 n (⟨16 * g.val + 2 * j.val, by omega⟩ : Fin 1280)))
      (v (ix2 n (⟨16 * g.val + 2 * j.val + 1, by omega⟩ : Fin 1280))) (q (ix2 n g)) j.val l.val := by
  show Scalar.select (isAt (posOf off0 q) (ix4 n g j l)) (spread (val0 v) (ix4 n g j l))
    (Scalar.select (isAt (posOf off1 q) (ix4 n g j l)) (spread (val1 v) (ix4 n g j l)) 0#8) = _
  rw [isAt_apply, isAt_apply, spread_apply, spread_apply, val0_apply, val1_apply, pos0_apply, pos1_apply, select_eq_bits, select_eq_bits]
  rfl

/-- The dense codes, row by row. -/
def denseOf (v : IVec S6912x1280 8) (q : IVec S6912x80 32) : IVec S6912x2560 8 :=
  shapeCast S6912x2560 (places v q) shapeCasts_S6912x80x8x4_S6912x2560

theorem denseOf_apply (v : IVec S6912x1280 8) (q : IVec S6912x80 32) (n : Fin 6912) (k : Fin 2560) :
    denseOf v q (ix2 n k) = Words.rowCode (fun a => v (ix2 n a)) (fun g => q (ix2 n g)) k := by
  refine (shapeCast_apply _ _ _ (ix4 n (⟨k.val / 32, by omega⟩ : Fin 80) (⟨k.val / 4 % 8, by omega⟩ : Fin 8) (⟨k.val % 4, by omega⟩ : Fin 4)) ?_).trans ?_
  · rw [Shape.rowMajor_val_two, Shape.rowMajor_val_four]
    show ((n.val * 80 + k.val / 32) * 8 + k.val / 4 % 8) * 4 + k.val % 4 = n.val * 2560 + k.val
    omega
  · rw [places_apply]
    have e1 : (⟨16 * (k.val / 32) + 2 * (k.val / 4 % 8), by omega⟩ : Fin 1280) = ⟨2 * (k.val / 4), by omega⟩ := Fin.ext (by dsimp only; omega)
    have e2 : (⟨16 * (k.val / 32) + 2 * (k.val / 4 % 8) + 1, by omega⟩ : Fin 1280) = ⟨2 * (k.val / 4) + 1, by omega⟩ := Fin.ext (by dsimp only; omega)
    unfold Words.rowCode
    dsimp only
    rw [e1, e2]

variable (m : (ℓ : Loc nD τ sig) → Buf (Elt Ideal) ℓ)

/-- The dense codes the region finds. -/
theorem dense_eq (c : Dev nD) : (V m c main_v42 : Vec Ideal S6912x2560 .i8) =
    denseOf (m ((c : Thread nD τ).loc main_arg2)) (m ((c : Thread nD τ).loc main_arg3)) := by
  show StableHlo.after [hostOps0, hostOps0_1, hostOps0_2, hostOps0_3].flatten (fun b => m (c, b)) (Proc.tc.devRef main_v42) = _
  simp only [hostOps0, hostOps0_1, hostOps0_2, hostOps0_3, List.flatten_cons, List.flatten_nil, List.append_nil, List.cons_append, List.nil_append]
  after_results
  rfl

/-- The rows the region finds: the input reshaped. -/
theorem x_eq (c : Dev nD) : (V m c main_v40 : Vec Ideal S1920x2560 .bf16) =
    shapeCast S1920x2560 (m ((c : Thread nD τ).loc main_arg0)) shapeCasts_S3x640x2560_S1920x2560 := by
  show StableHlo.after [hostOps0, hostOps0_1, hostOps0_2, hostOps0_3].flatten (fun b => m (c, b)) (Proc.tc.devRef main_v40) = _
  simp only [hostOps0, hostOps0_1, hostOps0_2, hostOps0_3, List.flatten_cons, List.flatten_nil, List.append_nil, List.cons_append, List.nil_append]
  after_results
  rfl

theorem nw_eq (c : Dev nD) : (V m c main_v41 : Vec Ideal S1x2560 .f32) =
    shapeCast S1x2560 (m ((c : Thread nD τ).loc main_arg1)) shapeCasts_S2560_S1x2560 := by
  show StableHlo.after [hostOps0, hostOps0_1, hostOps0_2, hostOps0_3].flatten (fun b => m (c, b)) (Proc.tc.devRef main_v41) = _
  simp only [hostOps0, hostOps0_1, hostOps0_2, hostOps0_3, List.flatten_cons, List.flatten_nil, List.append_nil, List.cons_append, List.nil_append]
  after_results
  rfl

theorem ws_eq (c : Dev nD) : (V m c main_v43 : Vec Ideal S1x6912 .f32) =
    shapeCast S1x6912 (m ((c : Thread nD τ).loc main_arg4)) shapeCasts_S6912_S1x6912 := by
  show StableHlo.after [hostOps0, hostOps0_1, hostOps0_2, hostOps0_3].flatten (fun b => m (c, b)) (Proc.tc.devRef main_v43) = _
  simp only [hostOps0, hostOps0_1, hostOps0_2, hostOps0_3, List.flatten_cons, List.flatten_nil, List.append_nil, List.cons_append, List.nil_append]
  after_results
  rfl

end Cert.ReferenceIdeal.Value

end
-- ==== Proof.Given.lean ====
module

public import proofs.«01_k».proof.Defs
public import proofs.«01_k».proof.Proof.Final
public import proofs.«01_k».proof.Proof.RefDense
public import proofs.«01_k».proof.Proof.Gen.Pre_well_formed

@[expose] public section

noncomputable section

namespace Cert.KernelIdeal.Named

open Cert.KernelIdeal.Gen
open Idealize.ShloMosaic Idealize.ShloMosaic.TcCoe Idealize.ShloMosaic.Tactic

set_option maxHeartbeats 1000000

/-! What the precondition says of the kernel's operands. -/

/-- The largest finite value of the norm weights' format is below the 128th power of two. -/
theorem maxWord : ∃ M : ℝ, Ideal.ofBits .f32 0x7F7FFFFF#32 = (M : EReal) ∧ M ≤ (2 : ℝ) ^ 128 := by
  refine ⟨16777215 * (2 : ℝ) ^ (104 : ℕ), ?_, ?_⟩
  · simp [Ideal.ofBits, Ideal.ieee]
    try norm_cast
  · norm_num

/-- A value of magnitude at most a real is that of a real. -/
theorem real_of_abs_le (x : EReal) (M : ℝ) (h : max x (-x) ≤ (M : EReal)) : ∃ W : ℝ, x = (W : EReal) ∧ |W| ≤ M := by
  induction x with
  | bot => simp at h
  | top => simp at h
  | coe W =>
    refine ⟨W, rfl, ?_⟩
    rw [abs_le']
    exact ⟨EReal.coe_le_coe_iff.mp ((le_max_left _ _).trans h), EReal.coe_le_coe_iff.mp ((le_max_right _ _).trans h)⟩

variable (m : (ℓ : Loc nD τ sig) → Buf (Elt Ideal) ℓ)

theorem finite_of_pre (h : Cert.Pre_KernelIdeal_well_formed m) (c : Dev nD) : Finite m c := by
  intro k
  have h1 := congrFun (h c).1 (ix1 k)
  obtain ⟨M, hM, hle⟩ := maxWord
  obtain ⟨x, hx⟩ : ∃ x : EReal, x = (m ((c : Thread nD τ).loc main_arg1) : Vec Ideal S2560 .f32) (ix1 k) := ⟨_, rfl⟩
  have h2 : Ideal.cmp .ole (max x (-x)) (Ideal.ofBits .f32 0x7F7FFFFF#32) = 1#1 := by
    rw [hx]; exact h1
  have h3 : max x (-x) ≤ Ideal.ofBits .f32 0x7F7FFFFF#32 := by
    by_contra hc
    simp only [Ideal.cmp, hc, decide_false] at h2
    exact absurd h2 (by decide)
  rw [hM] at h3
  obtain ⟨W, hW, hb⟩ := real_of_abs_le _ M h3
  refine ⟨W, ?_, hb.trans hle⟩
  rw [nAll_eq, ← hW, hx]
  exact shapeCast_apply _ _ _ (ix1 k) (by simp [Shape.rowMajor_val_two, Shape.rowMajor_val_one])

theorem apart_of_pre (h : Cert.Pre_KernelIdeal_well_formed m) (c : Dev nD) : Apart m c := by
  intro n g j hj he
  have h1 := congrFun (h c).2 (ix3 n g ⟨j, hj⟩)
  have h2 : IntOp.cmpi .ne
      (Cert.ReferenceIdeal.Value.posOf Cert.ReferenceIdeal.Value.off0 (m ((c : Thread nD τ).loc main_arg3) : Vec Ideal S6912x80 .i32) (ix3 n g ⟨j, hj⟩))
      (Cert.ReferenceIdeal.Value.posOf Cert.ReferenceIdeal.Value.off1 (m ((c : Thread nD τ).loc main_arg3) : Vec Ideal S6912x80 .i32) (ix3 n g ⟨j, hj⟩)) = 1#1 := h1
  have hq : wiAll m c = (m ((c : Thread nD τ).loc main_arg3) : Vec Ideal S6912x80 .i32) := V_main_arg3 m c
  rw [hq] at he
  rw [Cert.ReferenceIdeal.Value.pos0_apply, Cert.ReferenceIdeal.Value.pos1_apply, he] at h2
  simp [IntOp.cmpi] at h2

end Cert.KernelIdeal.Named

end
-- ==== Proof.RefFinal.lean ====
module

public import proofs.«01_k».proof.Proof.RefDense
public import proofs.«01_k».proof.Proof.Closed

@[expose] public section

noncomputable section

namespace Cert.ReferenceIdeal.Value

open Cert.ReferenceIdeal.Gen
open Idealize.ShloMosaic Idealize.ShloMosaic.TcCoe Idealize.ShloMosaic.Tactic
open Idealize.SL.Sem
open Idealize.ShloMosaic.Pipeline (Dat)

set_option maxHeartbeats 1000000

variable (m : (ℓ : Loc nD τ sig) → Buf (Elt Ideal) ℓ) (ρ : Dev nD → PrngReg)

/-! The reference's result arrays after the run. -/

/-- The rows. -/
def rowsOf (c : Dev nD) : Vec Ideal S1920x2560 .bf16 := V m c main_v40
/-- The norm's weights. -/
def normOf (c : Dev nD) : Vec Ideal S1x2560 .f32 := V m c main_v41
/-- The dense codes. -/
def codesOf (c : Dev nD) : Vec Ideal S6912x2560 .i8 := V m c main_v42
/-- The output scales. -/
def scalesOf (c : Dev nD) : Vec Ideal S1x6912 .f32 := V m c main_v43

/-- The product. -/
def R4 (c : Dev nD) : Vec Ideal S1920x6912 .bf16 := fun y =>
  Closed.yOf (fun i k => rowsOf m c (ix2 i k)) (fun k => normOf m c (ix2 0 k)) (fun n k => codesOf m c (ix2 n k)) (fun n => scalesOf m c (ix2 0 n))
    (⟨(y 0).val, (y 0).isLt⟩ : Fin 1920) (⟨(y 1).val, (y 1).isLt⟩ : Fin 6912)
/-- The codes of all rows. -/
def R5 (c : Dev nD) : Vec Ideal S1920x2560 .fp8e4m3 := fun y =>
  Quant.codeOf (fun j => rowsOf m c (ix2 (⟨(y 0).val, (y 0).isLt⟩ : Fin 1920) j)) (fun j => normOf m c (ix2 0 j)) (⟨(y 1).val, (y 1).isLt⟩ : Fin 2560)
/-- The scales of all rows. -/
def R6 (c : Dev nD) : Vec Ideal S1920x1 .f32 := fun y =>
  Quant.scaleOf (fun j => rowsOf m c (ix2 (⟨(y 0).val, (y 0).isLt⟩ : Fin 1920) j)) (fun j => normOf m c (ix2 0 j))

theorem index_0 : ∀ t : Fin cfg0.N, win0_0.index t (0 : Fin 2) = 0 ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)
theorem index_5 : ∀ t : Fin cfg0.N, win0_5.index t (0 : Fin 2) = 0 ∧ win0_5.index t (1 : Fin 2) = 0 :=
  (by decide +kernel : ∀ t : Fin grid0.N, _)
theorem index_6 : ∀ t : Fin cfg0.N, win0_6.index t (0 : Fin 2) = 0 ∧ win0_6.index t (1 : Fin 2) = 0 :=
  (by decide +kernel : ∀ t : Fin grid0.N, _)

theorem blk_0 (c : Dev nD) (t : Fin cfg0.N) : iblk m c 0 t = rowsOf m c := by
  obtain ⟨e0, e1⟩ := index_0 t
  funext y
  have hb0 : (((cfg0.win 0).blk t).view.emb y (0 : Fin 2)).val = win0_0.index t (0 : Fin 2) * 1920 + 1 * (y (0 : Fin 2)).val := rfl
  have hb1 : (((cfg0.win 0).blk t).view.emb y (1 : Fin 2)).val = win0_0.index t (1 : Fin 2) * 2560 + 1 * (y (1 : Fin 2)).val := rfl
  refine congrArg (V m c (Pipeline.arrRef spec0 0)) ?_
  funext d
  apply Fin.ext
  match d with
  | ⟨0, _⟩ => exact hb0.trans (show _ = (y (0 : Fin 2)).val by rw [e0]; omega)
  | ⟨1, _⟩ => exact hb1.trans (show _ = (y (1 : Fin 2)).val by rw [e1]; omega)

theorem blk_1 (c : Dev nD) (t : Fin cfg0.N) : iblk m c 1 t = normOf m c := by
  obtain ⟨e0, e1⟩ := index_1 t
  funext y
  have hb0 : (((cfg0.win 1).blk t).view.emb y (0 : Fin 2)).val = win0_1.index t (0 : Fin 2) * 1 + 1 * (y (0 : Fin 2)).val := rfl
  have hb1 : (((cfg0.win 1).blk t).view.emb y (1 : Fin 2)).val = win0_1.index t (1 : Fin 2) * 2560 + 1 * (y (1 : Fin 2)).val := rfl
  refine congrArg (V m c (Pipeline.arrRef spec0 1)) ?_
  funext d
  apply Fin.ext
  match d with
  | ⟨0, _⟩ => exact hb0.trans (show _ = (y (0 : Fin 2)).val by rw [e0]; omega)
  | ⟨1, _⟩ => exact hb1.trans (show _ = (y (1 : Fin 2)).val by rw [e1]; omega)

theorem blk_2 (c : Dev nD) (t : Fin cfg0.N) : iblk m c 2 t = codesOf m c := by
  obtain ⟨e0, e1⟩ := index_2 t
  funext y
  have hb0 : (((cfg0.win 2).blk t).view.emb y (0 : Fin 2)).val = win0_2.index t (0 : Fin 2) * 6912 + 1 * (y (0 : Fin 2)).val := rfl
  have hb1 : (((cfg0.win 2).blk t).view.emb y (1 : Fin 2)).val = win0_2.index t (1 : Fin 2) * 2560 + 1 * (y (1 : Fin 2)).val := rfl
  refine congrArg (V m c (Pipeline.arrRef spec0 2)) ?_
  funext d
  apply Fin.ext
  match d with
  | ⟨0, _⟩ => exact hb0.trans (show _ = (y (0 : Fin 2)).val by rw [e0]; omega)
  | ⟨1, _⟩ => exact hb1.trans (show _ = (y (1 : Fin 2)).val by rw [e1]; omega)

theorem blk_3 (c : Dev nD) (t : Fin cfg0.N) : iblk m c 3 t = scalesOf m c := by
  obtain ⟨e0, e1⟩ := index_3 t
  funext y
  have hb0 : (((cfg0.win 3).blk t).view.emb y (0 : Fin 2)).val = win0_3.index t (0 : Fin 2) * 1 + 1 * (y (0 : Fin 2)).val := rfl
  have hb1 : (((cfg0.win 3).blk t).view.emb y (1 : Fin 2)).val = win0_3.index t (1 : Fin 2) * 6912 + 1 * (y (1 : Fin 2)).val := rfl
  refine congrArg (V m c (Pipeline.arrRef spec0 3)) ?_
  funext d
  apply Fin.ext
  match d with
  | ⟨0, _⟩ => exact hb0.trans (show _ = (y (0 : Fin 2)).val by rw [e0]; omega)
  | ⟨1, _⟩ => exact hb1.trans (show _ = (y (1 : Fin 2)).val by rw [e1]; omega)

/-- A load of a whole block reads the block. -/
theorem ld_whole {e : EltTy} {a b : ℕ} (x : Vec Ideal ⟨2, ![a, b]⟩ e) (inb : ∀ d, (![0, 0] : Fin 2 → ℕ) d + (⟨2, ![a, b]⟩ : Shape).size d ≤ (⟨2, ![a, b]⟩ : Shape).size d) :
    View.ld x (Rect.unit (s := ⟨2, ![a, b]⟩) ![0, 0] (⟨2, ![a, b]⟩ : Shape).size inb) = x := by
  funext y
  refine congrArg x ?_
  funext d
  apply Fin.ext
  fin_cases d
  · show 0 + 1 * (y 0).val = (y 0).val; omega
  · show 0 + 1 * (y 1).val = (y 1).val; omega

/-- One store of a whole block leaves what it stores. -/
theorem canon_whole {e : EltTy} {a b : ℕ} (p : Vec Ideal ⟨2, ![a, b]⟩ e) (inb : ∀ d, (![0, 0] : Fin 2 → ℕ) d + (⟨2, ![a, b]⟩ : Shape).size d ≤ (⟨2, ![a, b]⟩ : Shape).size d) :
    View.canon (Val := Elt Ideal) [⟨Rect.unit (s := ⟨2, ![a, b]⟩) ![0, 0] (⟨2, ![a, b]⟩ : Shape).size inb, p⟩] = p := by
  funext y
  refine View.canon_apply_of_pieces p _ ?_ y ?_
  · intro pc hpc
    rcases List.mem_cons.mp hpc with rfl | hpc
    · intro x
      refine congrArg p ?_
      funext d
      apply Fin.ext
      fin_cases d
      · show (x 0).val = 0 + 1 * (x 0).val; omega
      · show (x 1).val = 0 + 1 * (x 1).val; omega
    · nomatch hpc
  · refine ⟨_, List.mem_cons_self, ?_⟩
    rw [Rect.mem_set_unit (inb := inb)]
    intro d
    fin_cases d
    · exact ⟨Nat.zero_le _, (show (y 0).val < 0 + a by rw [Nat.zero_add]; exact (y 0).isLt)⟩
    · exact ⟨Nat.zero_le _, (show (y 1).val < 0 + b by rw [Nat.zero_add]; exact (y 1).isLt)⟩

theorem out_4 (c : Dev nD) (t : Fin cfg0.N) : out0_4 (iblk m c 0 t) (iblk m c 1 t) (iblk m c 2 t) (iblk m c 3 t) = R4 m c := by
  rw [blk_0, blk_1, blk_2, blk_3]
  unfold out0_4 k0_pay6 k0_pay7
  rw [ld_whole, ld_whole, ld_whole, ld_whole]
  refine (canon_whole _ _).trans ?_
  funext y
  have e : y = ix2 (⟨(y 0).val, (y 0).isLt⟩ : Fin 1920) (⟨(y 1).val, (y 1).isLt⟩ : Fin 6912) := by
    funext d; apply Fin.ext; fin_cases d <;> rfl
  refine (congrArg _ e).trans ?_
  rw [pay1_apply, scale_apply]
  simp only [code_apply]
  rfl

theorem out_5 (c : Dev nD) (t : Fin cfg0.N) : out0_5 (iblk m c 0 t) (iblk m c 1 t) (iblk m c 2 t) (iblk m c 3 t) = R5 m c := by
  rw [blk_0, blk_1]
  unfold out0_5 k0_pay6
  rw [ld_whole, ld_whole]
  refine (canon_whole _ _).trans ?_
  funext y
  have e : y = ix2 (⟨(y 0).val, (y 0).isLt⟩ : Fin 1920) (⟨(y 1).val, (y 1).isLt⟩ : Fin 2560) := by
    funext d; apply Fin.ext; fin_cases d <;> rfl
  refine (congrArg _ e).trans ?_
  rw [code_apply]
  rfl

theorem out_6 (c : Dev nD) (t : Fin cfg0.N) : out0_6 (iblk m c 0 t) (iblk m c 1 t) (iblk m c 2 t) (iblk m c 3 t) = R6 m c := by
  rw [blk_0, blk_1]
  unfold out0_6 k0_pay7
  rw [ld_whole, ld_whole]
  refine (canon_whole _ _).trans ?_
  funext y
  have e : y = ix2 (⟨(y 0).val, (y 0).isLt⟩ : Fin 1920) (0 : Fin 1) := by
    funext d; apply Fin.ext; fin_cases d
    · rfl
    · show (y 1).val = 0
      have : (y 1).val < 1 := (y 1).isLt
      omega
  refine (congrArg _ e).trans ?_
  rw [scale_apply]
  rfl

theorem flush_4 : win0_4.flush (⟨0, by decide⟩ : Fin grid0.N) = true := by decide +kernel

theorem flushed_4 (c : Dev nD) (t : Fin cfg0.N) : (dats m 0 c).flushed 4 t = ((cfg0.win 4).blk t).view.read (Elt Ideal) (R4 m c) := by
  show (cfg0.win 4).cut (grid0.coords t) ((dats m 0 c).after 4 t) = _
  rw [after0_4, out_4]
  obtain ⟨e0, e1⟩ := index_4 t
  funext y
  have hb0 : (((cfg0.win 4).blk t).view.emb y (0 : Fin 2)).val = win0_4.index t (0 : Fin 2) * 1920 + 1 * (y (0 : Fin 2)).val := rfl
  have hb1 : (((cfg0.win 4).blk t).view.emb y (1 : Fin 2)).val = win0_4.index t (1 : Fin 2) * 6912 + 1 * (y (1 : Fin 2)).val := rfl
  refine congrArg (R4 m c) ?_
  funext d
  apply Fin.ext
  match d with
  | ⟨0, _⟩ => exact (hb0.trans (show _ = (y (0 : Fin 2)).val by rw [e0]; omega)).symm
  | ⟨1, _⟩ => exact (hb1.trans (show _ = (y (1 : Fin 2)).val by rw [e1]; omega)).symm

theorem mem_blk_4 (t : Fin cfg0.N) (i : S1920x6912.Idx) :
    i ∈ ((cfg0.win 4).blk t).view.set ↔ ∀ a : Fin 2, win0_4.index t a * S1920x6912.size a ≤ (i a).val ∧ (i a).val < win0_4.index t a * S1920x6912.size a + S1920x6912.size a := by
  show i ∈ ((View.whole main_v44_0).slice (win0_4.rect t)).set ↔ _
  rw [View.set_slice_whole, Rect.mem_set_unit]
  exact Iff.rfl

/-- The array after the run. -/
theorem final_4 (c : Dev nD) : (dats m 0 c).arrAt 4 cfg0.N = R4 m c :=
  (dats m 0 c).arrAt_eq_of_cover 4 _ (fun t _ => flushed_4 m c t) (fun i => by
    have hi0 : (i (0 : Fin 2)).val < 1920 := (i (0 : Fin 2)).isLt
    have hi1 : (i (1 : Fin 2)).val < 6912 := (i (1 : Fin 2)).isLt
    obtain ⟨e0, e1⟩ := index_4 (⟨0, by decide⟩ : Fin grid0.N)
    refine ⟨(⟨0, by decide⟩ : Fin grid0.N), flush_4, ?_⟩
    rw [mem_blk_4]
    intro a
    match a with
    | ⟨0, _⟩ =>
      show win0_4.index _ (0 : Fin 2) * 1920 ≤ (i (0 : Fin 2)).val ∧ (i (0 : Fin 2)).val < win0_4.index _ (0 : Fin 2) * 1920 + 1920
      rw [e0]; omega
    | ⟨1, _⟩ =>
      show win0_4.index _ (1 : Fin 2) * 6912 ≤ (i (1 : Fin 2)).val ∧ (i (1 : Fin 2)).val < win0_4.index _ (1 : Fin 2) * 6912 + 6912
      rw [e1]; omega)

theorem flush_5 : win0_5.flush (⟨0, by decide⟩ : Fin grid0.N) = true := by decide +kernel

theorem flushed_5 (c : Dev nD) (t : Fin cfg0.N) : (dats m 0 c).flushed 5 t = ((cfg0.win 5).blk t).view.read (Elt Ideal) (R5 m c) := by
  show (cfg0.win 5).cut (grid0.coords t) ((dats m 0 c).after 5 t) = _
  rw [after0_5, out_5]
  obtain ⟨e0, e1⟩ := index_5 t
  funext y
  have hb0 : (((cfg0.win 5).blk t).view.emb y (0 : Fin 2)).val = win0_5.index t (0 : Fin 2) * 1920 + 1 * (y (0 : Fin 2)).val := rfl
  have hb1 : (((cfg0.win 5).blk t).view.emb y (1 : Fin 2)).val = win0_5.index t (1 : Fin 2) * 2560 + 1 * (y (1 : Fin 2)).val := rfl
  refine congrArg (R5 m c) ?_
  funext d
  apply Fin.ext
  match d with
  | ⟨0, _⟩ => exact (hb0.trans (show _ = (y (0 : Fin 2)).val by rw [e0]; omega)).symm
  | ⟨1, _⟩ => exact (hb1.trans (show _ = (y (1 : Fin 2)).val by rw [e1]; omega)).symm

theorem mem_blk_5 (t : Fin cfg0.N) (i : S1920x2560.Idx) :
    i ∈ ((cfg0.win 5).blk t).view.set ↔ ∀ a : Fin 2, win0_5.index t a * S1920x2560.size a ≤ (i a).val ∧ (i a).val < win0_5.index t a * S1920x2560.size a + S1920x2560.size a := by
  show i ∈ ((View.whole main_v44_1).slice (win0_5.rect t)).set ↔ _
  rw [View.set_slice_whole, Rect.mem_set_unit]
  exact Iff.rfl

/-- The array after the run. -/
theorem final_5 (c : Dev nD) : (dats m 0 c).arrAt 5 cfg0.N = R5 m c :=
  (dats m 0 c).arrAt_eq_of_cover 5 _ (fun t _ => flushed_5 m c t) (fun i => by
    have hi0 : (i (0 : Fin 2)).val < 1920 := (i (0 : Fin 2)).isLt
    have hi1 : (i (1 : Fin 2)).val < 2560 := (i (1 : Fin 2)).isLt
    obtain ⟨e0, e1⟩ := index_5 (⟨0, by decide⟩ : Fin grid0.N)
    refine ⟨(⟨0, by decide⟩ : Fin grid0.N), flush_5, ?_⟩
    rw [mem_blk_5]
    intro a
    match a with
    | ⟨0, _⟩ =>
      show win0_5.index _ (0 : Fin 2) * 1920 ≤ (i (0 : Fin 2)).val ∧ (i (0 : Fin 2)).val < win0_5.index _ (0 : Fin 2) * 1920 + 1920
      rw [e0]; omega
    | ⟨1, _⟩ =>
      show win0_5.index _ (1 : Fin 2) * 2560 ≤ (i (1 : Fin 2)).val ∧ (i (1 : Fin 2)).val < win0_5.index _ (1 : Fin 2) * 2560 + 2560
      rw [e1]; omega)

theorem flush_6 : win0_6.flush (⟨0, by decide⟩ : Fin grid0.N) = true := by decide +kernel

theorem flushed_6 (c : Dev nD) (t : Fin cfg0.N) : (dats m 0 c).flushed 6 t = ((cfg0.win 6).blk t).view.read (Elt Ideal) (R6 m c) := by
  show (cfg0.win 6).cut (grid0.coords t) ((dats m 0 c).after 6 t) = _
  rw [after0_6, out_6]
  obtain ⟨e0, e1⟩ := index_6 t
  funext y
  have hb0 : (((cfg0.win 6).blk t).view.emb y (0 : Fin 2)).val = win0_6.index t (0 : Fin 2) * 1920 + 1 * (y (0 : Fin 2)).val := rfl
  have hb1 : (((cfg0.win 6).blk t).view.emb y (1 : Fin 2)).val = win0_6.index t (1 : Fin 2) * 1 + 1 * (y (1 : Fin 2)).val := rfl
  refine congrArg (R6 m c) ?_
  funext d
  apply Fin.ext
  match d with
  | ⟨0, _⟩ => exact (hb0.trans (show _ = (y (0 : Fin 2)).val by rw [e0]; omega)).symm
  | ⟨1, _⟩ => exact (hb1.trans (show _ = (y (1 : Fin 2)).val by rw [e1]; omega)).symm

theorem mem_blk_6 (t : Fin cfg0.N) (i : S1920x1.Idx) :
    i ∈ ((cfg0.win 6).blk t).view.set ↔ ∀ a : Fin 2, win0_6.index t a * S1920x1.size a ≤ (i a).val ∧ (i a).val < win0_6.index t a * S1920x1.size a + S1920x1.size a := by
  show i ∈ ((View.whole main_v44_2).slice (win0_6.rect t)).set ↔ _
  rw [View.set_slice_whole, Rect.mem_set_unit]
  exact Iff.rfl

/-- The array after the run. -/
theorem final_6 (c : Dev nD) : (dats m 0 c).arrAt 6 cfg0.N = R6 m c :=
  (dats m 0 c).arrAt_eq_of_cover 6 _ (fun t _ => flushed_6 m c t) (fun i => by
    have hi0 : (i (0 : Fin 2)).val < 1920 := (i (0 : Fin 2)).isLt
    have hi1 : (i (1 : Fin 2)).val < 1 := (i (1 : Fin 2)).isLt
    obtain ⟨e0, e1⟩ := index_6 (⟨0, by decide⟩ : Fin grid0.N)
    refine ⟨(⟨0, by decide⟩ : Fin grid0.N), flush_6, ?_⟩
    rw [mem_blk_6]
    intro a
    match a with
    | ⟨0, _⟩ =>
      show win0_6.index _ (0 : Fin 2) * 1920 ≤ (i (0 : Fin 2)).val ∧ (i (0 : Fin 2)).val < win0_6.index _ (0 : Fin 2) * 1920 + 1920
      rw [e0]; omega
    | ⟨1, _⟩ =>
      show win0_6.index _ (1 : Fin 2) * 1 ≤ (i (1 : Fin 2)).val ∧ (i (1 : Fin 2)).val < win0_6.index _ (1 : Fin 2) * 1 + 1
      rw [e1]; omega)

/-- After the run: the three results, and the arguments unchanged. -/
theorem run_values : θ_run defs (onTc (τ := τ) (main (F := Ideal))) ⟨m, fun _ => 0, ρ⟩ fun r => ∀ c : Dev nD,
      r.2.mem ((c : Thread nD τ).loc main_v44_0) = R4 m c
      ∧ r.2.mem ((c : Thread nD τ).loc main_v44_1) = R5 m c
      ∧ r.2.mem ((c : Thread nD τ).loc main_v44_2) = R6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 4).trans (final_4 m c),
      ((h c).1 5).trans (final_5 m c),
      ((h c).1 6).trans (final_6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.ReferenceIdeal.Value

end
-- ==== Proof.Agree.lean ====
module

public import proofs.«01_k».proof.Proof.Given
public import proofs.«01_k».proof.Proof.RefFinal

@[expose] public section

noncomputable section

namespace Cert.Agree

open Idealize.ShloMosaic Idealize.ShloMosaic.TcCoe Idealize.ShloMosaic.Tactic

set_option maxHeartbeats 1000000

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-! From memories that agree on the arguments, the arrays the kernel leaves are the arrays the reference leaves. -/

theorem rows (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Value.rowsOf m' c = Cert.KernelIdeal.Named.xAll m c := by
  refine (Cert.ReferenceIdeal.Value.x_eq m' c).trans ?_
  rw [Cert.KernelIdeal.Named.xAll_eq, h]

theorem norms (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.normOf m' c = Cert.KernelIdeal.Named.nAll m c := by
  refine (Cert.ReferenceIdeal.Value.nw_eq m' c).trans ?_
  rw [Cert.KernelIdeal.Named.nAll_eq, h]

theorem weightScales (c : Dev Cert.KernelIdeal.nD)
    (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.scalesOf m' c = Cert.KernelIdeal.Named.sAll m c := by
  refine (Cert.ReferenceIdeal.Value.ws_eq m' c).trans ?_
  rw [Cert.KernelIdeal.Named.sAll_eq, h]

theorem denseCodes (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (fun (n : Fin 6912) (k : Fin 2560) => Cert.ReferenceIdeal.Value.codesOf m' c (ix2 n k)) = Cert.KernelIdeal.Named.dense m c := by
  funext n k
  have e2 : Cert.KernelIdeal.Named.wvAll m c = m ((c.tc : Thread Cert.KernelIdeal.nD Cert.KernelIdeal.τ).loc Cert.KernelIdeal.main_arg2) := Cert.KernelIdeal.Gen.V_main_arg2 m c
  have e3 : Cert.KernelIdeal.Named.wiAll m c = m ((c.tc : Thread Cert.KernelIdeal.nD Cert.KernelIdeal.τ).loc Cert.KernelIdeal.main_arg3) := Cert.KernelIdeal.Gen.V_main_arg3 m c
  refine (congrFun (Cert.ReferenceIdeal.Value.dense_eq m' c) (ix2 n k)).trans ?_
  refine (Cert.ReferenceIdeal.Value.denseOf_apply _ _ n k).trans ?_
  unfold Cert.KernelIdeal.Named.dense
  rw [e2, e3, h2, h3]

theorem codes (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.R5 m' c = Cert.KernelIdeal.Named.codes (Cert.KernelIdeal.Named.xAll m c) (Cert.KernelIdeal.Named.nAll m c) := by
  unfold Cert.ReferenceIdeal.Value.R5 Cert.KernelIdeal.Named.codes
  rw [rows m m' c h0, norms m m' c h1]

theorem scales (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.R6 m' c = Cert.KernelIdeal.Named.scales (Cert.KernelIdeal.Named.xAll m c) (Cert.KernelIdeal.Named.nAll m c) := by
  unfold Cert.ReferenceIdeal.Value.R6 Cert.KernelIdeal.Named.scales
  rw [rows m m' c h0, norms m m' c h1]

theorem product (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.R4 m' c = Cert.KernelIdeal.Named.G11 m c := by
  unfold Cert.ReferenceIdeal.Value.R4 Cert.KernelIdeal.Named.G11
  rw [denseCodes m m' c h2 h3, rows m m' c h0, norms m m' c h1, weightScales m m' c h4]

end Cert.Agree

end
-- ==== Proof.lean ====
module

public import proofs.«01_k».proof.Defs
public import proofs.«01_k».proof.Proof.Gen.Kernel
public import proofs.«01_k».proof.Proof.Machine.Frame
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_well_formed
public import proofs.«01_k».proof.Proof.Named.Frame
public import proofs.«01_k».proof.Proof.Agree
public import Idealize.ShloMosaic.Adequacy
public import Idealize.ShloMosaic.Init

@[expose] public section

noncomputable section

namespace Cert.Proof

open Idealize.ShloMosaic Idealize.SL.Sem Cert.Kernel

set_option maxHeartbeats 1000000

/-- The kernel's results are the reference's. -/
theorem algebraic : Cert.algebraic_KernelIdeal_ReferenceIdeal_pre_well_formed := by
  intro m g m' g' hpre hagree
  refine ⟨fun c => Cert.KernelIdeal.Named.G11 m c,
    fun c => Cert.KernelIdeal.Named.codes (Cert.KernelIdeal.Named.xAll m c) (Cert.KernelIdeal.Named.nAll m c),
    fun c => Cert.KernelIdeal.Named.scales (Cert.KernelIdeal.Named.xAll m c) (Cert.KernelIdeal.Named.nAll m c), ?_, ?_⟩
  · exact Cert.KernelIdeal.Named.run_values m g (Cert.KernelIdeal.Named.finite_of_pre m hpre) (Cert.KernelIdeal.Named.apart_of_pre m hpre)
  · refine (θ_run Cert.ReferenceIdeal.defs _ _).mono (fun r h c => ?_) (Cert.ReferenceIdeal.Value.run_values m' g')
    obtain ⟨a0, a1, a2, a3, a4⟩ := hagree c
    obtain ⟨r0, r1, r2, hargs⟩ := h c
    exact ⟨r0.trans (Cert.Agree.product m m' c a0 a1 a2 a3 a4), r1.trans (Cert.Agree.codes m m' c a0 a1),
      r2.trans (Cert.Agree.scales m m' c a0 a1), hargs⟩

theorem claim : Cert.Claim := ⟨Cert.Kernel.Gen.facts, Cert.KernelIdeal.Gen.facts, Cert.ReferenceIdeal.Gen.facts, Cert.Pre_well_formed.Gen.facts,
  fun m g _ => Cert.Kernel.Machine.frame m g,
  fun m g _ => Cert.KernelIdeal.Named.frame m g,
  fun m g _ => Cert.KernelIdeal.Named.frame m g,
  fun m g _ => Cert.ReferenceIdeal.Gen.frame m g,
  fun m g _ => Cert.ReferenceIdeal.Gen.frame m g,
  IdealRules.named_const.statement Cert.KernelIdeal.κ "inv_d" .f32 0x39CCCCCD#32 ((1 / 2560 : ℝ) : EReal) rfl,
  algebraic⟩

end Cert.Proof

end
